-- ==== Defs.lean ====
def Pre_Kernel [hPre_lengths_fit : Cert.Pre_lengths_fit.Facts] (m : (ℓ : Loc Cert.Kernel.nD Cert.Kernel.τ Cert.Kernel.sig) → Buf (Elt Bits) ℓ) : Prop :=
  ∀ c : Dev Cert.Kernel.nD,
    (Cert.Pre_lengths_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_lengths_fit : Cert.Pre_lengths_fit.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_lengths_fit : Cert.Pre_lengths_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_lengths_fit : Cert.Pre_lengths_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_lengths_fit : Cert.Pre_lengths_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] [hPre_lengths_fit : Cert.Pre_lengths_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_lengths_fit : Cert.Pre_lengths_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_0) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_v9) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_lengths_fit : Cert.Pre_lengths_fit.Facts),
    quiescent_Kernel (hKernel := hKernel) (hPre_lengths_fit := hPre_lengths_fit)
    ∧ quiescent_KernelIdeal (hKernelIdeal := hKernelIdeal) (hPre_lengths_fit := hPre_lengths_fit)
    ∧ quiescent_ReferenceIdeal (hReferenceIdeal := hReferenceIdeal) (hPre_lengths_fit := hPre_lengths_fit)
    ∧ preserves_Kernel_KernelIdeal
    ∧ algebraic_KernelIdeal_ReferenceIdeal (hKernelIdeal := hKernelIdeal) (hReferenceIdeal := hReferenceIdeal) (hPre_lengths_fit := hPre_lengths_fit)
-- ==== Pre_lengths_fit.lean ====
abbrev S3x512x4096 : Shape := ⟨3, ![3, 512, 4096]⟩
abbrev S3x512x14336 : Shape := ⟨3, ![3, 512, 14336]⟩
abbrev S3x512 : Shape := ⟨2, ![3, 512]⟩
abbrev S14336x4096 : Shape := ⟨2, ![14336, 4096]⟩
abbrev S4096 : Shape := ⟨1, ![4096]⟩
abbrev S3 : Shape := ⟨1, ![3]⟩
abbrev S_ : Shape := ⟨0, ![]⟩

class Facts : Prop where
  bcast_S_S3 : S_.BroadcastsInDim S3 (![] : Fin 0 → Fin S3.rank)

variable [Facts]

def fn {F : FTy → Type} [FloatOps F] (main_arg0 : FVec F S3x512x4096 .bf16) (main_arg1 : FVec F S3x512x14336 .fp8e4m3) (main_arg2 : FVec F S3x512 .f32) (main_arg3 : FVec F S14336x4096 .fp8e4m3) (main_arg4 : FVec F S4096 .f32) (main_arg5 : FVec F S4096 .f32) (main_arg6 : FVec F S4096 .f32) (main_arg7 : FVec F S4096 .f32) (main_arg8 : IVec S3 32) : IVec S3 1 :=
  let main_c : IVec S_ 32 := constantI S_ 32 0#32
  let main_v0 : IVec S3 32 := broadcastInDim S3 ![] bcast_S_S3 main_c
  let main_v1 : IVec S3 1 := cmpi .sge main_arg8 main_v0
  let main_c_0 : IVec S_ 32 := constantI S_ 32 512#32
  let main_v2 : IVec S3 32 := broadcastInDim S3 ![] bcast_S_S3 main_c_0
  let main_v3 : IVec S3 1 := cmpi .sle main_arg8 main_v2
  let main_v4 : IVec S3 1 := andi main_v1 main_v3
  main_v4
-- ==== Kernel.lean ====
abbrev S3x512x4096 : Shape := ⟨3, ![3, 512, 4096]⟩
abbrev S3x512x14336 : Shape := ⟨3, ![3, 512, 14336]⟩
abbrev S3x512 : Shape := ⟨2, ![3, 512]⟩
abbrev S14336x4096 : Shape := ⟨2, ![14336, 4096]⟩
abbrev S4096 : Shape := ⟨1, ![4096]⟩
abbrev S3 : Shape := ⟨1, ![3]⟩
abbrev S3x1x512 : Shape := ⟨3, ![3, 1, 512]⟩
abbrev S1x4096 : Shape := ⟨2, ![1, 4096]⟩
abbrev S3x1x4096 : Shape := ⟨3, ![3, 1, 4096]⟩
abbrev S3x1x128 : Shape := ⟨3, ![3, 1, 128]⟩
abbrev S1x512x14336 : Shape := ⟨3, ![1, 512, 14336]⟩
abbrev S14336x512 : Shape := ⟨2, ![14336, 512]⟩
abbrev S1x512x512 : Shape := ⟨3, ![1, 512, 512]⟩
abbrev S1x1x512 : Shape := ⟨3, ![1, 1, 512]⟩
abbrev S1x512 : Shape := ⟨2, ![1, 512]⟩
abbrev S1x512x4096 : Shape := ⟨3, ![1, 512, 4096]⟩
abbrev S1x1x4096 : Shape := ⟨3, ![1, 1, 4096]⟩
abbrev S1x1x128 : Shape := ⟨3, ![1, 1, 128]⟩
abbrev S512x4096 : Shape := ⟨2, ![512, 4096]⟩
abbrev S512x128 : Shape := ⟨2, ![512, 128]⟩
abbrev S1 : Shape := ⟨1, ![1]⟩
abbrev S1x128 : Shape := ⟨2, ![1, 128]⟩
abbrev S128x128 : Shape := ⟨2, ![128, 128]⟩
abbrev S1x128x14336 : Shape := ⟨3, ![1, 128, 14336]⟩
abbrev S128x14336 : Shape := ⟨2, ![128, 14336]⟩
abbrev S128x512 : Shape := ⟨2, ![128, 512]⟩
abbrev S128x1 : Shape := ⟨2, ![128, 1]⟩
abbrev S1x128x512 : Shape := ⟨3, ![1, 128, 512]⟩
abbrev S32x4096 : Shape := ⟨2, ![32, 4096]⟩
abbrev S32 : Shape := ⟨1, ![32]⟩
abbrev S32x1 : Shape := ⟨2, ![32, 1]⟩
abbrev S1x32x4096 : Shape := ⟨3, ![1, 32, 4096]⟩
abbrev S1x1 : Shape := ⟨2, ![1, 1]⟩
abbrev S3x4096 : Shape := ⟨2, ![3, 4096]⟩
abbrev S3x1x1 : Shape := ⟨3, ![3, 1, 1]⟩

abbrev nBuf : Space → Nat
  | .hbm => 21
  | .vmem => 24
  | .smem => 1
  | _ => 0

abbrev bufTy : (tb : Table) → Fin (tcTables nBuf tb) → BufTy
  | .hbm, ⟨0, _⟩ => ⟨S3x512x4096, .bf16⟩
  | .hbm, ⟨1, _⟩ => ⟨S3x512x14336, .fp8e4m3⟩
  | .hbm, ⟨2, _⟩ => ⟨S3x512, .f32⟩
  | .hbm, ⟨3, _⟩ => ⟨S14336x4096, .fp8e4m3⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S3x1x512, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S1x4096, .f32⟩
  | .hbm, ⟨13, _⟩ => ⟨S3x512x4096, .f32⟩
  | .hbm, ⟨14, _⟩ => ⟨S3x1x4096, .f32⟩
  | .hbm, ⟨15, _⟩ => ⟨S3x1x4096, .i8⟩
  | .hbm, ⟨16, _⟩ => ⟨S3x1x128, .f32⟩
  | .hbm, ⟨17, _⟩ => ⟨S3x4096, .f32⟩
  | .hbm, ⟨18, _⟩ => ⟨S3x4096, .i8⟩
  | .hbm, ⟨19, _⟩ => ⟨S3x1x1, .f32⟩
  | .hbm, ⟨20, _⟩ => ⟨S3, .f32⟩
  | .local _ .vmem, ⟨0, _⟩ => ⟨S1x512x14336, .fp8e4m3⟩
  | .local _ .vmem, ⟨1, _⟩ => ⟨S1x512x14336, .fp8e4m3⟩
  | .local _ .vmem, ⟨2, _⟩ => ⟨S14336x512, .fp8e4m3⟩
  | .local _ .vmem, ⟨3, _⟩ => ⟨S14336x512, .fp8e4m3⟩
  | .local _ .vmem, ⟨4, _⟩ => ⟨S1x512x512, .bf16⟩
  | .local _ .vmem, ⟨5, _⟩ => ⟨S1x512x512, .bf16⟩
  | .local _ .vmem, ⟨6, _⟩ => ⟨S1x1x512, .f32⟩
  | .local _ .vmem, ⟨7, _⟩ => ⟨S1x1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x4096, .f32⟩
  | .local _ .vmem, ⟨13, _⟩ => ⟨S1x4096, .f32⟩
  | .local _ .vmem, ⟨14, _⟩ => ⟨S1x512x4096, .f32⟩
  | .local _ .vmem, ⟨15, _⟩ => ⟨S1x512x4096, .f32⟩
  | .local _ .vmem, ⟨16, _⟩ => ⟨S1x1x4096, .f32⟩
  | .local _ .vmem, ⟨17, _⟩ => ⟨S1x1x4096, .f32⟩
  | .local _ .vmem, ⟨18, _⟩ => ⟨S1x1x4096, .i8⟩
  | .local _ .vmem, ⟨19, _⟩ => ⟨S1x1x4096, .i8⟩
  | .local _ .vmem, ⟨20, _⟩ => ⟨S1x1x128, .f32⟩
  | .local _ .vmem, ⟨21, _⟩ => ⟨S1x1x128, .f32⟩
  | .local _ .vmem, ⟨22, _⟩ => ⟨S512x4096, .f32⟩
  | .local _ .vmem, ⟨23, _⟩ => ⟨S512x128, .f32⟩
  | .local _ .smem, ⟨0, _⟩ => ⟨S3, .i32⟩
  | _, _ => ⟨S3x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_arg8 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![3, 8], ![false, false]⟩

abbrev pre0 : Pipeline.Prefetch sig := ⟨1, ![main_arg8.idx], fun | 0 => main_arg8.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) : Scf.Loop 32 :=
  let c0_i32_1 : BitVec 32 := 0#32
  let c127_i32 : BitVec 32 := 127#32
  let v2 : BitVec 32 := Scalar.addi v1 c127_i32
  let c128_i32 : BitVec 32 := 128#32
  let v3 : BitVec 32 := Scalar.divsi v2 c128_i32
  let v7 : BitVec 32 := Scalar.subi v3 c0_i32_1
  let c1_i32 : BitVec 32 := 1#32
  let v9 : BitVec 32 := Scalar.divsi v7 c1_i32
  let v10 : BitVec 32 := Scalar.muli v9 c1_i32
  let v11 : BitVec 32 := Scalar.addi c0_i32_1 v10
  let c1_i32_3 : BitVec 32 := 1#32
  ⟨c0_i32_1, v11, c1_i32_3⟩

def k0_mult1 (v1 : BitVec 32) (k0_t1 : Fin (k0_t1_loop v1).trips) : BitVec 32 :=
  let c0_i32_1 : BitVec 32 := 0#32
  let c1_i32_3 : BitVec 32 := 1#32
  let arg17 : BitVec 32 := Scf.iv c0_i32_1 c1_i32_3 k0_t1
  let c128_i32_6 : BitVec 32 := 128#32
  let v17 : BitVec 32 := Scalar.muli arg17 c128_i32_6
  v17
def k0_off2 (v1 : BitVec 32) (k0_t1 : Fin (k0_t1_loop v1).trips) : Fin 3 → Nat :=
  let c0 : Index := 0#32
  let c0_i32_1 : BitVec 32 := 0#32
  let c1_i32_3 : BitVec 32 := 1#32
  let arg17 : BitVec 32 := Scf.iv c0_i32_1 c1_i32_3 k0_t1
  let c128_i32_6 : BitVec 32 := 128#32
  let v17 : BitVec 32 := Scalar.muli arg17 c128_i32_6
  let v18 : BitVec 32 := v17
  let v19 : Index := Scalar.indexCast v18
  let c0_7 : Index := 0#32
  ![0, v19.toNat, 0]
def k0_off3 (v1 : BitVec 32) (k0_t1 : Fin (k0_t1_loop v1).trips) : Fin 2 → Nat :=
  let c0_i32_1 : BitVec 32 := 0#32
  let c1_i32_3 : BitVec 32 := 1#32
  let arg17 : BitVec 32 := Scf.iv c0_i32_1 c1_i32_3 k0_t1
  let c128_i32_6 : BitVec 32 := 128#32
  let v17 : BitVec 32 := Scalar.muli arg17 c128_i32_6
  let v18 : BitVec 32 := v17
  let v24 : Index := Scalar.indexCast v18
  let c0_10 : Index := 0#32
  ![v24.toNat, 0]
def k0_off4 (v1 : BitVec 32) (k0_t1 : Fin (k0_t1_loop v1).trips) : Fin 3 → Nat :=
  let c0_11 : Index := 0#32
  let c0_i32_1 : BitVec 32 := 0#32
  let c1_i32_3 : BitVec 32 := 1#32
  let arg17 : BitVec 32 := Scf.iv c0_i32_1 c1_i32_3 k0_t1
  let c128_i32_6 : BitVec 32 := 128#32
  let v17 : BitVec 32 := Scalar.muli arg17 c128_i32_6
  let v18 : BitVec 32 := v17
  let v26 : Index := Scalar.indexCast v18
  let c0_12 : Index := 0#32
  ![0, v26.toNat, 0]
def k0_mult2 (i : grid0.Coords) : BitVec 32 :=
  let arg1 : BitVec 32 := BitVec.ofNat 32 (i 1).val
  let c512_i32 : BitVec 32 := 512#32
  let v41 : BitVec 32 := Scalar.muli arg1 c512_i32
  v41
def k0_off5 (i : grid0.Coords) (v1 : BitVec 32) (k0_t1 : Fin (k0_t1_loop v1).trips) : Fin 2 → Nat :=
  let c0_i32_1 : BitVec 32 := 0#32
  let c1_i32_3 : BitVec 32 := 1#32
  let arg17 : BitVec 32 := Scf.iv c0_i32_1 c1_i32_3 k0_t1
  let c128_i32_6 : BitVec 32 := 128#32
  let v17 : BitVec 32 := Scalar.muli arg17 c128_i32_6
  let v18 : BitVec 32 := v17
  let v43 : Index := Scalar.indexCast v18
  let arg1 : BitVec 32 := BitVec.ofNat 32 (i 1).val
  let c512_i32 : BitVec 32 := 512#32
  let v41 : BitVec 32 := Scalar.muli arg1 c512_i32
  let v42 : BitVec 32 := v41
  let v44 : Index := Scalar.indexCast v42
  ![v43.toNat, v44.toNat]
@[reducible] def k0_t2_loop (v1 : BitVec 32) : Scf.Loop 32 :=
  let c0_i32_1 : BitVec 32 := 0#32
  let c127_i32 : BitVec 32 := 127#32
  let v2 : BitVec 32 := Scalar.addi v1 c127_i32
  let c128_i32 : BitVec 32 := 128#32
  let v3 : BitVec 32 := Scalar.divsi v2 c128_i32
  let v7 : BitVec 32 := Scalar.subi v3 c0_i32_1
  let c1_i32 : BitVec 32 := 1#32
  let v9 : BitVec 32 := Scalar.divsi v7 c1_i32
  let v10 : BitVec 32 := Scalar.muli v9 c1_i32
  let v11 : BitVec 32 := Scalar.addi c0_i32_1 v10
  let v8 : BitVec 32 := Scalar.addi c0_i32_1 v7
  let c1_i32_4 : BitVec 32 := 1#32
  ⟨v11, v8, c1_i32_4⟩
def k0_mult3 (v1 : BitVec 32) (k0_t2 : Fin (k0_t2_loop v1).trips) : BitVec 32 :=
  let c0_i32_1 : BitVec 32 := 0#32
  let c127_i32 : BitVec 32 := 127#32
  let v2 : BitVec 32 := Scalar.addi v1 c127_i32
  let c128_i32 : BitVec 32 := 128#32
  let v3 : BitVec 32 := Scalar.divsi v2 c128_i32
  let v7 : BitVec 32 := Scalar.subi v3 c0_i32_1
  let c1_i32 : BitVec 32 := 1#32
  let v9 : BitVec 32 := Scalar.divsi v7 c1_i32
  let v10 : BitVec 32 := Scalar.muli v9 c1_i32
  let v11 : BitVec 32 := Scalar.addi c0_i32_1 v10
  let c1_i32_4 : BitVec 32 := 1#32
  let arg17 : BitVec 32 := Scf.iv v11 c1_i32_4 k0_t2
  let c128_i32_6 : BitVec 32 := 128#32
  let v17 : BitVec 32 := Scalar.muli arg17 c128_i32_6
  v17
def k0_off6 (v1 : BitVec 32) (k0_t2 : Fin (k0_t2_loop v1).trips) : Fin 3 → Nat :=
  let c0 : Index := 0#32
  let c0_i32_1 : BitVec 32 := 0#32
  let c127_i32 : BitVec 32 := 127#32
  let v2 : BitVec 32 := Scalar.addi v1 c127_i32
  let c128_i32 : BitVec 32 := 128#32
  let v3 : BitVec 32 := Scalar.divsi v2 c128_i32
  let v7 : BitVec 32 := Scalar.subi v3 c0_i32_1
  let c1_i32 : BitVec 32 := 1#32
  let v9 : BitVec 32 := Scalar.divsi v7 c1_i32
  let v10 : BitVec 32 := Scalar.muli v9 c1_i32
  let v11 : BitVec 32 := Scalar.addi c0_i32_1 v10
  let c1_i32_4 : BitVec 32 := 1#32
  let arg17 : BitVec 32 := Scf.iv v11 c1_i32_4 k0_t2
  let c128_i32_6 : BitVec 32 := 128#32
  let v17 : BitVec 32 := Scalar.muli arg17 c128_i32_6
  let v18 : BitVec 32 := v17
  let v19 : Index := Scalar.indexCast v18
  let c0_7 : Index := 0#32
  ![0, v19.toNat, 0]
def k0_off7 (v1 : BitVec 32) (k0_t2 : Fin (k0_t2_loop v1).trips) : Fin 2 → Nat :=
  let c0_i32_1 : BitVec 32 := 0#32
  let c127_i32 : BitVec 32 := 127#32
  let v2 : BitVec 32 := Scalar.addi v1 c127_i32
  let c128_i32 : BitVec 32 := 128#32
  let v3 : BitVec 32 := Scalar.divsi v2 c128_i32
  let v7 : BitVec 32 := Scalar.subi v3 c0_i32_1
  let c1_i32 : BitVec 32 := 1#32
  let v9 : BitVec 32 := Scalar.divsi v7 c1_i32
  let v10 : BitVec 32 := Scalar.muli v9 c1_i32
  let v11 : BitVec 32 := Scalar.addi c0_i32_1 v10
  let c1_i32_4 : BitVec 32 := 1#32
  let arg17 : BitVec 32 := Scf.iv v11 c1_i32_4 k0_t2
  let c128_i32_6 : BitVec 32 := 128#32
  let v17 : BitVec 32 := Scalar.muli arg17 c128_i32_6
  let v18 : BitVec 32 := v17
  let v24 : Index := Scalar.indexCast v18
  let c0_10 : Index := 0#32
  ![v24.toNat, 0]
def k0_off8 (v1 : BitVec 32) (k0_t2 : Fin (k0_t2_loop v1).trips) : Fin 3 → Nat :=
  let c0_11 : Index := 0#32
  let c0_i32_1 : BitVec 32 := 0#32
  let c127_i32 : BitVec 32 := 127#32
  let v2 : BitVec 32 := Scalar.addi v1 c127_i32
  let c128_i32 : BitVec 32 := 128#32
  let v3 : BitVec 32 := Scalar.divsi v2 c128_i32
  let v7 : BitVec 32 := Scalar.subi v3 c0_i32_1
  let c1_i32 : BitVec 32 := 1#32
  let v9 : BitVec 32 := Scalar.divsi v7 c1_i32
  let v10 : BitVec 32 := Scalar.muli v9 c1_i32
  let v11 : BitVec 32 := Scalar.addi c0_i32_1 v10
  let c1_i32_4 : BitVec 32 := 1#32
  let arg17 : BitVec 32 := Scf.iv v11 c1_i32_4 k0_t2
  let c128_i32_6 : BitVec 32 := 128#32
  let v17 : BitVec 32 := Scalar.muli arg17 c128_i32_6
  let v18 : BitVec 32 := v17
  let v26 : Index := Scalar.indexCast v18
  let c0_12 : Index := 0#32
  ![0, v26.toNat, 0]
def k0_mult4 (i : grid0.Coords) : BitVec 32 :=
  let arg1 : BitVec 32 := BitVec.ofNat 32 (i 1).val
  let c512_i32 : BitVec 32 := 512#32
  let v41 : BitVec 32 := Scalar.muli arg1 c512_i32
  v41
def k0_off9 (i : grid0.Coords) (v1 : BitVec 32) (k0_t2 : Fin (k0_t2_loop v1).trips) : Fin 2 → Nat :=
  let c0_i32_1 : BitVec 32 := 0#32
  let c127_i32 : BitVec 32 := 127#32
  let v2 : BitVec 32 := Scalar.addi v1 c127_i32
  let c128_i32 : BitVec 32 := 128#32
  let v3 : BitVec 32 := Scalar.divsi v2 c128_i32
  let v7 : BitVec 32 := Scalar.subi v3 c0_i32_1
  let c1_i32 : BitVec 32 := 1#32
  let v9 : BitVec 32 := Scalar.divsi v7 c1_i32
  let v10 : BitVec 32 := Scalar.muli v9 c1_i32
  let v11 : BitVec 32 := Scalar.addi c0_i32_1 v10
  let c1_i32_4 : BitVec 32 := 1#32
  let arg17 : BitVec 32 := Scf.iv v11 c1_i32_4 k0_t2
  let c128_i32_6 : BitVec 32 := 128#32
  let v17 : BitVec 32 := Scalar.muli arg17 c128_i32_6
  let v18 : BitVec 32 := v17
  let v43 : Index := Scalar.indexCast v18
  let arg1 : BitVec 32 := BitVec.ofNat 32 (i 1).val
  let c512_i32 : BitVec 32 := 512#32
  let v41 : BitVec 32 := Scalar.muli arg1 c512_i32
  let v42 : BitVec 32 := v41
  let v44 : Index := Scalar.indexCast v42
  ![v43.toNat, v44.toNat]
def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_5 : BitVec 32 := 0#32
  let v16 : BitVec 1 := Scalar.cmpi .ne v15 c0_i32_5
  v16

@[reducible] def k0_t3_loop (v1 : BitVec 32) : Scf.Loop 32 :=
  let c0_i32_6 : BitVec 32 := 0#32
  let c127_i32 : BitVec 32 := 127#32
  let v2 : BitVec 32 := Scalar.addi v1 c127_i32
  let c128_i32 : BitVec 32 := 128#32
  let v3 : BitVec 32 := Scalar.divsi v2 c128_i32
  let c4_i32 : BitVec 32 := 4#32
  let v17 : BitVec 32 := Scalar.muli v3 c4_i32
  let v19 : BitVec 32 := Scalar.subi v17 c0_i32_6
  let c1_i32_7 : BitVec 32 := 1#32
  let v21 : BitVec 32 := Scalar.divsi v19 c1_i32_7
  let v22 : BitVec 32 := Scalar.muli v21 c1_i32_7
  let v23 : BitVec 32 := Scalar.addi c0_i32_6 v22
  let c1_i32_8 : BitVec 32 := 1#32
  ⟨c0_i32_6, v23, c1_i32_8⟩
def k0_mult5 (v1 : BitVec 32) (k0_t3 : Fin (k0_t3_loop v1).trips) : BitVec 32 :=
  let c0_i32_6 : BitVec 32 := 0#32
  let c1_i32_8 : BitVec 32 := 1#32
  let arg17 : BitVec 32 := Scf.iv c0_i32_6 c1_i32_8 k0_t3
  let c32_i32 : BitVec 32 := 32#32
  let v73 : BitVec 32 := Scalar.muli arg17 c32_i32
  v73
def k0_off10 (v1 : BitVec 32) (k0_t3 : Fin (k0_t3_loop v1).trips) : Fin 2 → Nat :=
  let c0_i32_6 : BitVec 32 := 0#32
  let c1_i32_8 : BitVec 32 := 1#32
  let arg17 : BitVec 32 := Scf.iv c0_i32_6 c1_i32_8 k0_t3
  let c32_i32 : BitVec 32 := 32#32
  let v73 : BitVec 32 := Scalar.muli arg17 c32_i32
  let v74 : BitVec 32 := v73
  let v75 : Index := Scalar.indexCast v74
  let c0_30 : Index := 0#32
  ![v75.toNat, 0]
def k0_off11 (v1 : BitVec 32) (k0_t3 : Fin (k0_t3_loop v1).trips) : Fin 3 → Nat :=
  let c0_41 : Index := 0#32
  let c0_i32_6 : BitVec 32 := 0#32
  let c1_i32_8 : BitVec 32 := 1#32
  let arg17 : BitVec 32 := Scf.iv c0_i32_6 c1_i32_8 k0_t3
  let c32_i32 : BitVec 32 := 32#32
  let v73 : BitVec 32 := Scalar.muli arg17 c32_i32
  let v74 : BitVec 32 := v73
  let v108 : Index := Scalar.indexCast v74
  let c0_42 : Index := 0#32
  ![0, v108.toNat, 0]
@[reducible] def k0_t4_loop (v1 : BitVec 32) : Scf.Loop 32 :=
  let c0_i32_6 : BitVec 32 := 0#32
  let c127_i32 : BitVec 32 := 127#32
  let v2 : BitVec 32 := Scalar.addi v1 c127_i32
  let c128_i32 : BitVec 32 := 128#32
  let v3 : BitVec 32 := Scalar.divsi v2 c128_i32
  let c4_i32 : BitVec 32 := 4#32
  let v17 : BitVec 32 := Scalar.muli v3 c4_i32
  let v19 : BitVec 32 := Scalar.subi v17 c0_i32_6
  let c1_i32_7 : BitVec 32 := 1#32
  let v21 : BitVec 32 := Scalar.divsi v19 c1_i32_7
  let v22 : BitVec 32 := Scalar.muli v21 c1_i32_7
  let v23 : BitVec 32 := Scalar.addi c0_i32_6 v22
  let v20 : BitVec 32 := Scalar.addi c0_i32_6 v19
  let c1_i32_9 : BitVec 32 := 1#32
  ⟨v23, v20, c1_i32_9⟩
def k0_mult6 (v1 : BitVec 32) (k0_t4 : Fin (k0_t4_loop v1).trips) : BitVec 32 :=
  let c0_i32_6 : BitVec 32 := 0#32
  let c127_i32 : BitVec 32 := 127#32
  let v2 : BitVec 32 := Scalar.addi v1 c127_i32
  let c128_i32 : BitVec 32 := 128#32
  let v3 : BitVec 32 := Scalar.divsi v2 c128_i32
  let c4_i32 : BitVec 32 := 4#32
  let v17 : BitVec 32 := Scalar.muli v3 c4_i32
  let v19 : BitVec 32 := Scalar.subi v17 c0_i32_6
  let c1_i32_7 : BitVec 32 := 1#32
  let v21 : BitVec 32 := Scalar.divsi v19 c1_i32_7
  let v22 : BitVec 32 := Scalar.muli v21 c1_i32_7
  let v23 : BitVec 32 := Scalar.addi c0_i32_6 v22
  let c1_i32_9 : BitVec 32 := 1#32
  let arg17 : BitVec 32 := Scf.iv v23 c1_i32_9 k0_t4
  let c32_i32 : BitVec 32 := 32#32
  let v73 : BitVec 32 := Scalar.muli arg17 c32_i32
  v73
def k0_off12 (v1 : BitVec 32) (k0_t4 : Fin (k0_t4_loop v1).trips) : Fin 2 → Nat :=
  let c0_i32_6 : BitVec 32 := 0#32
  let c127_i32 : BitVec 32 := 127#32
  let v2 : BitVec 32 := Scalar.addi v1 c127_i32
  let c128_i32 : BitVec 32 := 128#32
  let v3 : BitVec 32 := Scalar.divsi v2 c128_i32
  let c4_i32 : BitVec 32 := 4#32
  let v17 : BitVec 32 := Scalar.muli v3 c4_i32
  let v19 : BitVec 32 := Scalar.subi v17 c0_i32_6
  let c1_i32_7 : BitVec 32 := 1#32
  let v21 : BitVec 32 := Scalar.divsi v19 c1_i32_7
  let v22 : BitVec 32 := Scalar.muli v21 c1_i32_7
  let v23 : BitVec 32 := Scalar.addi c0_i32_6 v22
  let c1_i32_9 : BitVec 32 := 1#32
  let arg17 : BitVec 32 := Scf.iv v23 c1_i32_9 k0_t4
  let c32_i32 : BitVec 32 := 32#32
  let v73 : BitVec 32 := Scalar.muli arg17 c32_i32
  let v74 : BitVec 32 := v73
  let v75 : Index := Scalar.indexCast v74
  let c0_30 : Index := 0#32
  ![v75.toNat, 0]
def k0_off13 (v1 : BitVec 32) (k0_t4 : Fin (k0_t4_loop v1).trips) : Fin 3 → Nat :=
  let c0_41 : Index := 0#32
  let c0_i32_6 : BitVec 32 := 0#32
  let c127_i32 : BitVec 32 := 127#32
  let v2 : BitVec 32 := Scalar.addi v1 c127_i32
  let c128_i32 : BitVec 32 := 128#32
  let v3 : BitVec 32 := Scalar.divsi v2 c128_i32
  let c4_i32 : BitVec 32 := 4#32
  let v17 : BitVec 32 := Scalar.muli v3 c4_i32
  let v19 : BitVec 32 := Scalar.subi v17 c0_i32_6
  let c1_i32_7 : BitVec 32 := 1#32
  let v21 : BitVec 32 := Scalar.divsi v19 c1_i32_7
  let v22 : BitVec 32 := Scalar.muli v21 c1_i32_7
  let v23 : BitVec 32 := Scalar.addi c0_i32_6 v22
  let c1_i32_9 : BitVec 32 := 1#32
  let arg17 : BitVec 32 := Scf.iv v23 c1_i32_9 k0_t4
  let c32_i32 : BitVec 32 := 32#32
  let v73 : BitVec 32 := Scalar.muli arg17 c32_i32
  let v74 : BitVec 32 := v73
  let v108 : Index := Scalar.indexCast v74
  let c0_42 : Index := 0#32
  ![0, v108.toNat, 0]
@[reducible] def k0_t5_loop (v1 : BitVec 32) : Scf.Loop 32 :=
  let c127_i32 : BitVec 32 := 127#32
  let v2 : BitVec 32 := Scalar.addi v1 c127_i32
  let c128_i32 : BitVec 32 := 128#32
  let v3 : BitVec 32 := Scalar.divsi v2 c128_i32
  let c4_i32 : BitVec 32 := 4#32
  let v17 : BitVec 32 := Scalar.muli v3 c4_i32
  let c16_i32 : BitVec 32 := 16#32
  let v26 : BitVec 32 := Scalar.subi c16_i32 v17
  let c1_i32_11 : BitVec 32 := 1#32
  let v28 : BitVec 32 := Scalar.divsi v26 c1_i32_11
  let v29 : BitVec 32 := Scalar.muli v28 c1_i32_11
  let v30 : BitVec 32 := Scalar.addi v17 v29
  let c1_i32_12 : BitVec 32 := 1#32
  ⟨v17, v30, c1_i32_12⟩
def k0_mult7 (v1 : BitVec 32) (k0_t5 : Fin (k0_t5_loop v1).trips) : BitVec 32 :=
  let c127_i32 : BitVec 32 := 127#32
  let v2 : BitVec 32 := Scalar.addi v1 c127_i32
  let c128_i32 : BitVec 32 := 128#32
  let v3 : BitVec 32 := Scalar.divsi v2 c128_i32
  let c4_i32 : BitVec 32 := 4#32
  let v17 : BitVec 32 := Scalar.muli v3 c4_i32
  let c1_i32_12 : BitVec 32 := 1#32
  let arg17 : BitVec 32 := Scf.iv v17 c1_i32_12 k0_t5
  let c32_i32 : BitVec 32 := 32#32
  let v73 : BitVec 32 := Scalar.muli arg17 c32_i32
  v73
def k0_off14 (v1 : BitVec 32) (k0_t5 : Fin (k0_t5_loop v1).trips) : Fin 3 → Nat :=
  let c0_31 : Index := 0#32
  let c127_i32 : BitVec 32 := 127#32
  let v2 : BitVec 32 := Scalar.addi v1 c127_i32
  let c128_i32 : BitVec 32 := 128#32
  let v3 : BitVec 32 := Scalar.divsi v2 c128_i32
  let c4_i32 : BitVec 32 := 4#32
  let v17 : BitVec 32 := Scalar.muli v3 c4_i32
  let c1_i32_12 : BitVec 32 := 1#32
  let arg17 : BitVec 32 := Scf.iv v17 c1_i32_12 k0_t5
  let c32_i32 : BitVec 32 := 32#32
  let v73 : BitVec 32 := Scalar.muli arg17 c32_i32
  let v74 : BitVec 32 := v73
  let v76 : Index := Scalar.indexCast v74
  let c0_32 : Index := 0#32
  ![0, v76.toNat, 0]
@[reducible] def k0_t6_loop (v1 : BitVec 32) : Scf.Loop 32 :=
  let c127_i32 : BitVec 32 := 127#32
  let v2 : BitVec 32 := Scalar.addi v1 c127_i32
  let c128_i32 : BitVec 32 := 128#32
  let v3 : BitVec 32 := Scalar.divsi v2 c128_i32
  let c4_i32 : BitVec 32 := 4#32
  let v17 : BitVec 32 := Scalar.muli v3 c4_i32
  let c16_i32 : BitVec 32 := 16#32
  let v26 : BitVec 32 := Scalar.subi c16_i32 v17
  let c1_i32_11 : BitVec 32 := 1#32
  let v28 : BitVec 32 := Scalar.divsi v26 c1_i32_11
  let v29 : BitVec 32 := Scalar.muli v28 c1_i32_11
  let v30 : BitVec 32 := Scalar.addi v17 v29
  let v27 : BitVec 32 := Scalar.addi v17 v26
  let c1_i32_13 : BitVec 32 := 1#32
  ⟨v30, v27, c1_i32_13⟩
def k0_mult8 (v1 : BitVec 32) (k0_t6 : Fin (k0_t6_loop v1).trips) : BitVec 32 :=
  let c127_i32 : BitVec 32 := 127#32
  let v2 : BitVec 32 := Scalar.addi v1 c127_i32
  let c128_i32 : BitVec 32 := 128#32
  let v3 : BitVec 32 := Scalar.divsi v2 c128_i32
  let c4_i32 : BitVec 32 := 4#32
  let v17 : BitVec 32 := Scalar.muli v3 c4_i32
  let c16_i32 : BitVec 32 := 16#32
  let v26 : BitVec 32 := Scalar.subi c16_i32 v17
  let c1_i32_11 : BitVec 32 := 1#32
  let v28 : BitVec 32 := Scalar.divsi v26 c1_i32_11
  let v29 : BitVec 32 := Scalar.muli v28 c1_i32_11
  let v30 : BitVec 32 := Scalar.addi v17 v29
  let c1_i32_13 : BitVec 32 := 1#32
  let arg17 : BitVec 32 := Scf.iv v30 c1_i32_13 k0_t6
  let c32_i32 : BitVec 32 := 32#32
  let v73 : BitVec 32 := Scalar.muli arg17 c32_i32
  v73
def k0_off15 (v1 : BitVec 32) (k0_t6 : Fin (k0_t6_loop v1).trips) : Fin 3 → Nat :=
  let c0_31 : Index := 0#32
  let c127_i32 : BitVec 32 := 127#32
  let v2 : BitVec 32 := Scalar.addi v1 c127_i32
  let c128_i32 : BitVec 32 := 128#32
  let v3 : BitVec 32 := Scalar.divsi v2 c128_i32
  let c4_i32 : BitVec 32 := 4#32
  let v17 : BitVec 32 := Scalar.muli v3 c4_i32
  let c16_i32 : BitVec 32 := 16#32
  let v26 : BitVec 32 := Scalar.subi c16_i32 v17
  let c1_i32_11 : BitVec 32 := 1#32
  let v28 : BitVec 32 := Scalar.divsi v26 c1_i32_11
  let v29 : BitVec 32 := Scalar.muli v28 c1_i32_11
  let v30 : BitVec 32 := Scalar.addi v17 v29
  let c1_i32_13 : BitVec 32 := 1#32
  let arg17 : BitVec 32 := Scf.iv v30 c1_i32_13 k0_t6
  let c32_i32 : BitVec 32 := 32#32
  let v73 : BitVec 32 := Scalar.muli arg17 c32_i32
  let v74 : BitVec 32 := v73
  let v76 : Index := Scalar.indexCast v74
  let c0_32 : Index := 0#32
  ![0, v76.toNat, 0]

def k0_chk1 (i : grid0.Coords) (v1 : BitVec 32) : Prop :=
  ((k0_t1_loop v1).OK) ∧
  (∀ k0_t1 : Fin (k0_t1_loop v1).trips, 128 ∣ (k0_mult1 v1 k0_t1).toNat) ∧
  (∀ k0_t1 : Fin (k0_t1_loop v1).trips, ∀ a, (k0_off2 v1 k0_t1) a + S1x128x14336.size a ≤ S1x512x14336.size a) ∧
  (∀ k0_t1 : Fin (k0_t1_loop v1).trips, ∀ a, (k0_off3 v1 k0_t1) a + S128x1.size a ≤ S512x128.size a) ∧
  (∀ k0_t1 : Fin (k0_t1_loop v1).trips, ∀ a, (k0_off4 v1 k0_t1) a + S1x128x512.size a ≤ S1x512x512.size a) ∧
  (∀ k0_t1 : Fin (k0_t1_loop v1).trips, ∀ a, (k0_off5 i v1 k0_t1) a + S128x512.size a ≤ S512x4096.size a) ∧
  ((k0_t2_loop v1).OK) ∧
  (∀ k0_t2 : Fin (k0_t2_loop v1).trips, 128 ∣ (k0_mult3 v1 k0_t2).toNat) ∧
  (∀ k0_t2 : Fin (k0_t2_loop v1).trips, ∀ a, (k0_off6 v1 k0_t2) a + S1x128x14336.size a ≤ S1x512x14336.size a) ∧
  (∀ k0_t2 : Fin (k0_t2_loop v1).trips, ∀ a, (k0_off7 v1 k0_t2) a + S128x1.size a ≤ S512x128.size a) ∧
  (∀ k0_t2 : Fin (k0_t2_loop v1).trips, ∀ a, (k0_off8 v1 k0_t2) a + S1x128x512.size a ≤ S1x512x512.size a) ∧
  (∀ k0_t2 : Fin (k0_t2_loop v1).trips, ∀ a, (k0_off9 i v1 k0_t2) a + S128x512.size a ≤ S512x4096.size a) ∧
  (∀ (k0_h2 : k0_cond2 i = 1#1), (k0_t3_loop v1).OK) ∧
  (∀ k0_t3 : Fin (k0_t3_loop v1).trips, ∀ (k0_h2 : k0_cond2 i = 1#1), 32 ∣ (k0_mult5 v1 k0_t3).toNat) ∧
  (∀ k0_t3 : Fin (k0_t3_loop v1).trips, ∀ (k0_h2 : k0_cond2 i = 1#1), ∀ a, (k0_off10 v1 k0_t3) a + S32x4096.size a ≤ S512x4096.size a) ∧
  (∀ k0_t3 : Fin (k0_t3_loop v1).trips, ∀ (k0_h2 : k0_cond2 i = 1#1), ∀ a, (k0_off11 v1 k0_t3) a + S1x32x4096.size a ≤ S1x512x4096.size a) ∧
  (∀ (k0_h2 : k0_cond2 i = 1#1), (k0_t4_loop v1).OK) ∧
  (∀ k0_t4 : Fin (k0_t4_loop v1).trips, ∀ (k0_h2 : k0_cond2 i = 1#1), 32 ∣ (k0_mult6 v1 k0_t4).toNat) ∧
  (∀ k0_t4 : Fin (k0_t4_loop v1).trips, ∀ (k0_h2 : k0_cond2 i = 1#1), ∀ a, (k0_off12 v1 k0_t4) a + S32x4096.size a ≤ S512x4096.size a) ∧
  (∀ k0_t4 : Fin (k0_t4_loop v1).trips, ∀ (k0_h2 : k0_cond2 i = 1#1), ∀ a, (k0_off13 v1 k0_t4) a + S1x32x4096.size a ≤ S1x512x4096.size a) ∧
  (∀ (k0_h2 : k0_cond2 i = 1#1), (k0_t5_loop v1).OK) ∧
  (∀ k0_t5 : Fin (k0_t5_loop v1).trips, ∀ (k0_h2 : k0_cond2 i = 1#1), 32 ∣ (k0_mult7 v1 k0_t5).toNat) ∧
  (∀ k0_t5 : Fin (k0_t5_loop v1).trips, ∀ (k0_h2 : k0_cond2 i = 1#1), ∀ a, (k0_off14 v1 k0_t5) a + S1x32x4096.size a ≤ S1x512x4096.size a) ∧
  (∀ (k0_h2 : k0_cond2 i = 1#1), (k0_t6_loop v1).OK) ∧
  (∀ k0_t6 : Fin (k0_t6_loop v1).trips, ∀ (k0_h2 : k0_cond2 i = 1#1), 32 ∣ (k0_mult8 v1 k0_t6).toNat) ∧
  (∀ k0_t6 : Fin (k0_t6_loop v1).trips, ∀ (k0_h2 : k0_cond2 i = 1#1), ∀ a, (k0_off15 v1 k0_t6) a + S1x32x4096.size a ≤ S1x512x4096.size a)
theorem k0_t1_ok : ∀ (i : grid0.Coords) (v1 : BitVec 32) (k0_hw1 : k0_chk1 i v1), (k0_t1_loop v1).OK := fun i v1 k0_hw1 => k0_hw1.1
theorem k0_mult1_dvd : ∀ (i : grid0.Coords) (v1 : BitVec 32) (k0_hw1 : k0_chk1 i v1) (k0_t1 : Fin (k0_t1_loop v1).trips), 128 ∣ (k0_mult1 v1 k0_t1).toNat := fun i v1 k0_hw1 k0_t1 => k0_hw1.2.1 k0_t1
theorem k0_off2_inb : ∀ (i : grid0.Coords) (v1 : BitVec 32) (k0_hw1 : k0_chk1 i v1) (k0_t1 : Fin (k0_t1_loop v1).trips), ∀ a, (k0_off2 v1 k0_t1) a + S1x128x14336.size a ≤ S1x512x14336.size a := fun i v1 k0_hw1 k0_t1 => k0_hw1.2.2.1 k0_t1
theorem k0_off3_inb : ∀ (i : grid0.Coords) (v1 : BitVec 32) (k0_hw1 : k0_chk1 i v1) (k0_t1 : Fin (k0_t1_loop v1).trips), ∀ a, (k0_off3 v1 k0_t1) a + S128x1.size a ≤ S512x128.size a := fun i v1 k0_hw1 k0_t1 => k0_hw1.2.2.2.1 k0_t1
theorem k0_off4_inb : ∀ (i : grid0.Coords) (v1 : BitVec 32) (k0_hw1 : k0_chk1 i v1) (k0_t1 : Fin (k0_t1_loop v1).trips), ∀ a, (k0_off4 v1 k0_t1) a + S1x128x512.size a ≤ S1x512x512.size a := fun i v1 k0_hw1 k0_t1 => k0_hw1.2.2.2.2.1 k0_t1
theorem k0_off5_inb : ∀ (i : grid0.Coords) (v1 : BitVec 32) (k0_hw1 : k0_chk1 i v1) (k0_t1 : Fin (k0_t1_loop v1).trips), ∀ a, (k0_off5 i v1 k0_t1) a + S128x512.size a ≤ S512x4096.size a := fun i v1 k0_hw1 k0_t1 => k0_hw1.2.2.2.2.2.1 k0_t1
theorem k0_t2_ok : ∀ (i : grid0.Coords) (v1 : BitVec 32) (k0_hw1 : k0_chk1 i v1), (k0_t2_loop v1).OK := fun i v1 k0_hw1 => k0_hw1.2.2.2.2.2.2.1
theorem k0_mult3_dvd : ∀ (i : grid0.Coords) (v1 : BitVec 32) (k0_hw1 : k0_chk1 i v1) (k0_t2 : Fin (k0_t2_loop v1).trips), 128 ∣ (k0_mult3 v1 k0_t2).toNat := fun i v1 k0_hw1 k0_t2 => k0_hw1.2.2.2.2.2.2.2.1 k0_t2
theorem k0_off6_inb : ∀ (i : grid0.Coords) (v1 : BitVec 32) (k0_hw1 : k0_chk1 i v1) (k0_t2 : Fin (k0_t2_loop v1).trips), ∀ a, (k0_off6 v1 k0_t2) a + S1x128x14336.size a ≤ S1x512x14336.size a := fun i v1 k0_hw1 k0_t2 => k0_hw1.2.2.2.2.2.2.2.2.1 k0_t2
theorem k0_off7_inb : ∀ (i : grid0.Coords) (v1 : BitVec 32) (k0_hw1 : k0_chk1 i v1) (k0_t2 : Fin (k0_t2_loop v1).trips), ∀ a, (k0_off7 v1 k0_t2) a + S128x1.size a ≤ S512x128.size a := fun i v1 k0_hw1 k0_t2 => k0_hw1.2.2.2.2.2.2.2.2.2.1 k0_t2
theorem k0_off8_inb : ∀ (i : grid0.Coords) (v1 : BitVec 32) (k0_hw1 : k0_chk1 i v1) (k0_t2 : Fin (k0_t2_loop v1).trips), ∀ a, (k0_off8 v1 k0_t2) a + S1x128x512.size a ≤ S1x512x512.size a := fun i v1 k0_hw1 k0_t2 => k0_hw1.2.2.2.2.2.2.2.2.2.2.1 k0_t2
theorem k0_off9_inb : ∀ (i : grid0.Coords) (v1 : BitVec 32) (k0_hw1 : k0_chk1 i v1) (k0_t2 : Fin (k0_t2_loop v1).trips), ∀ a, (k0_off9 i v1 k0_t2) a + S128x512.size a ≤ S512x4096.size a := fun i v1 k0_hw1 k0_t2 => k0_hw1.2.2.2.2.2.2.2.2.2.2.2.1 k0_t2
theorem k0_t3_ok : ∀ (i : grid0.Coords) (v1 : BitVec 32) (k0_hw1 : k0_chk1 i v1), ∀ (k0_h2 : k0_cond2 i = 1#1), (k0_t3_loop v1).OK := fun i v1 k0_hw1 k0_h2 => k0_hw1.2.2.2.2.2.2.2.2.2.2.2.2.1 k0_h2
theorem k0_mult5_dvd : ∀ (i : grid0.Coords) (v1 : BitVec 32) (k0_hw1 : k0_chk1 i v1) (k0_t3 : Fin (k0_t3_loop v1).trips), ∀ (k0_h2 : k0_cond2 i = 1#1), 32 ∣ (k0_mult5 v1 k0_t3).toNat := fun i v1 k0_hw1 k0_t3 k0_h2 => k0_hw1.2.2.2.2.2.2.2.2.2.2.2.2.2.1 k0_t3 k0_h2
theorem k0_off10_inb : ∀ (i : grid0.Coords) (v1 : BitVec 32) (k0_hw1 : k0_chk1 i v1) (k0_t3 : Fin (k0_t3_loop v1).trips), ∀ (k0_h2 : k0_cond2 i = 1#1), ∀ a, (k0_off10 v1 k0_t3) a + S32x4096.size a ≤ S512x4096.size a := fun i v1 k0_hw1 k0_t3 k0_h2 => k0_hw1.2.2.2.2.2.2.2.2.2.2.2.2.2.2.1 k0_t3 k0_h2
theorem k0_off11_inb : ∀ (i : grid0.Coords) (v1 : BitVec 32) (k0_hw1 : k0_chk1 i v1) (k0_t3 : Fin (k0_t3_loop v1).trips), ∀ (k0_h2 : k0_cond2 i = 1#1), ∀ a, (k0_off11 v1 k0_t3) a + S1x32x4096.size a ≤ S1x512x4096.size a := fun i v1 k0_hw1 k0_t3 k0_h2 => k0_hw1.2.2.2.2.2.2.2.2.2.2.2.2.2.2.2.1 k0_t3 k0_h2
theorem k0_t4_ok : ∀ (i : grid0.Coords) (v1 : BitVec 32) (k0_hw1 : k0_chk1 i v1), ∀ (k0_h2 : k0_cond2 i = 1#1), (k0_t4_loop v1).OK := fun i v1 k0_hw1 k0_h2 => k0_hw1.2.2.2.2.2.2.2.2.2.2.2.2.2.2.2.2.1 k0_h2
theorem k0_mult6_dvd : ∀ (i : grid0.Coords) (v1 : BitVec 32) (k0_hw1 : k0_chk1 i v1) (k0_t4 : Fin (k0_t4_loop v1).trips), ∀ (k0_h2 : k0_cond2 i = 1#1), 32 ∣ (k0_mult6 v1 k0_t4).toNat := fun i v1 k0_hw1 k0_t4 k0_h2 => k0_hw1.2.2.2.2.2.2.2.2.2.2.2.2.2.2.2.2.2.1 k0_t4 k0_h2
theorem k0_off12_inb : ∀ (i : grid0.Coords) (v1 : BitVec 32) (k0_hw1 : k0_chk1 i v1) (k0_t4 : Fin (k0_t4_loop v1).trips), ∀ (k0_h2 : k0_cond2 i = 1#1), ∀ a, (k0_off12 v1 k0_t4) a + S32x4096.size a ≤ S512x4096.size a := fun i v1 k0_hw1 k0_t4 k0_h2 => k0_hw1.2.2.2.2.2.2.2.2.2.2.2.2.2.2.2.2.2.2.1 k0_t4 k0_h2
theorem k0_off13_inb : ∀ (i : grid0.Coords) (v1 : BitVec 32) (k0_hw1 : k0_chk1 i v1) (k0_t4 : Fin (k0_t4_loop v1).trips), ∀ (k0_h2 : k0_cond2 i = 1#1), ∀ a, (k0_off13 v1 k0_t4) a + S1x32x4096.size a ≤ S1x512x4096.size a := fun i v1 k0_hw1 k0_t4 k0_h2 => k0_hw1.2.2.2.2.2.2.2.2.2.2.2.2.2.2.2.2.2.2.2.1 k0_t4 k0_h2
theorem k0_t5_ok : ∀ (i : grid0.Coords) (v1 : BitVec 32) (k0_hw1 : k0_chk1 i v1), ∀ (k0_h2 : k0_cond2 i = 1#1), (k0_t5_loop v1).OK := fun i v1 k0_hw1 k0_h2 => k0_hw1.2.2.2.2.2.2.2.2.2.2.2.2.2.2.2.2.2.2.2.2.1 k0_h2
theorem k0_mult7_dvd : ∀ (i : grid0.Coords) (v1 : BitVec 32) (k0_hw1 : k0_chk1 i v1) (k0_t5 : Fin (k0_t5_loop v1).trips), ∀ (k0_h2 : k0_cond2 i = 1#1), 32 ∣ (k0_mult7 v1 k0_t5).toNat := fun i v1 k0_hw1 k0_t5 k0_h2 => k0_hw1.2.2.2.2.2.2.2.2.2.2.2.2.2.2.2.2.2.2.2.2.2.1 k0_t5 k0_h2
theorem k0_off14_inb : ∀ (i : grid0.Coords) (v1 : BitVec 32) (k0_hw1 : k0_chk1 i v1) (k0_t5 : Fin (k0_t5_loop v1).trips), ∀ (k0_h2 : k0_cond2 i = 1#1), ∀ a, (k0_off14 v1 k0_t5) a + S1x32x4096.size a ≤ S1x512x4096.size a := fun i v1 k0_hw1 k0_t5 k0_h2 => k0_hw1.2.2.2.2.2.2.2.2.2.2.2.2.2.2.2.2.2.2.2.2.2.2.1 k0_t5 k0_h2
theorem k0_t6_ok : ∀ (i : grid0.Coords) (v1 : BitVec 32) (k0_hw1 : k0_chk1 i v1), ∀ (k0_h2 : k0_cond2 i = 1#1), (k0_t6_loop v1).OK := fun i v1 k0_hw1 k0_h2 => k0_hw1.2.2.2.2.2.2.2.2.2.2.2.2.2.2.2.2.2.2.2.2.2.2.2.1 k0_h2
theorem k0_mult8_dvd : ∀ (i : grid0.Coords) (v1 : BitVec 32) (k0_hw1 : k0_chk1 i v1) (k0_t6 : Fin (k0_t6_loop v1).trips), ∀ (k0_h2 : k0_cond2 i = 1#1), 32 ∣ (k0_mult8 v1 k0_t6).toNat := fun i v1 k0_hw1 k0_t6 k0_h2 => k0_hw1.2.2.2.2.2.2.2.2.2.2.2.2.2.2.2.2.2.2.2.2.2.2.2.2.1 k0_t6 k0_h2
theorem k0_off15_inb : ∀ (i : grid0.Coords) (v1 : BitVec 32) (k0_hw1 : k0_chk1 i v1) (k0_t6 : Fin (k0_t6_loop v1).trips), ∀ (k0_h2 : k0_cond2 i = 1#1), ∀ a, (k0_off15 v1 k0_t6) a + S1x32x4096.size a ≤ S1x512x4096.size a := fun i v1 k0_hw1 k0_t6 k0_h2 => k0_hw1.2.2.2.2.2.2.2.2.2.2.2.2.2.2.2.2.2.2.2.2.2.2.2.2.2 k0_t6 k0_h2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x14336 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S14336x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x4096 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S3x512x4096 : Shape := ⟨3, ![3, 512, 4096]⟩
abbrev S3x512x14336 : Shape := ⟨3, ![3, 512, 14336]⟩
abbrev S3x512 : Shape := ⟨2, ![3, 512]⟩
abbrev S14336x4096 : Shape := ⟨2, ![14336, 4096]⟩
abbrev S4096 : Shape := ⟨1, ![4096]⟩
abbrev S3 : Shape := ⟨1, ![3]⟩
abbrev S3x512x1 : Shape := ⟨3, ![3, 512, 1]⟩
abbrev S1x1x4096 : Shape := ⟨3, ![1, 1, 4096]⟩
abbrev S3x1x1 : Shape := ⟨3, ![3, 1, 1]⟩
abbrev S3x1x4096 : Shape := ⟨3, ![3, 1, 4096]⟩
abbrev S3x4096 : Shape := ⟨2, ![3, 4096]⟩
abbrev S3x1 : Shape := ⟨2, ![3, 1]⟩

abbrev nBuf : Space → Nat
  | .hbm => 22
  | .vmem => 13
  | .smem => 0
  | _ => 0

abbrev bufTy : (tb : Table) → Fin (tcTables nBuf tb) → BufTy
  | .hbm, ⟨0, _⟩ => ⟨S3x512x4096, .bf16⟩
  | .hbm, ⟨1, _⟩ => ⟨S3x512x14336, .fp8e4m3⟩
  | .hbm, ⟨2, _⟩ => ⟨S3x512, .f32⟩
  | .hbm, ⟨3, _⟩ => ⟨S14336x4096, .fp8e4m3⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S3, .i32⟩
  | .hbm, ⟨9, _⟩ => ⟨S3x512x1, .f32⟩
  | .hbm, ⟨10, _⟩ => ⟨S1x1x4096, .f32⟩
  | .hbm, ⟨11, _⟩ => ⟨S1x1x4096, .f32⟩
  | .hbm, ⟨12, _⟩ => ⟨S1x1x4096, .f32⟩
  | .hbm, ⟨13, _⟩ => ⟨S1x1x4096, .f32⟩
  | .hbm, ⟨14, _⟩ => ⟨S3x1x1, .i32⟩
  | .hbm, ⟨15, _⟩ => ⟨S3x512x4096, .f32⟩
  | .hbm, ⟨16, _⟩ => ⟨S3x1x4096, .f32⟩
  | .hbm, ⟨17, _⟩ => ⟨S3x1x4096, .i8⟩
  | .hbm, ⟨18, _⟩ => ⟨S3x1x1, .f32⟩
  | .hbm, ⟨19, _⟩ => ⟨S3x4096, .f32⟩
  | .hbm, ⟨20, _⟩ => ⟨S3x4096, .i8⟩
  | .hbm, ⟨21, _⟩ => ⟨S3, .f32⟩
  | .local _ .vmem, ⟨0, _⟩ => ⟨S3x512x4096, .bf16⟩
  | .local _ .vmem, ⟨1, _⟩ => ⟨S3x512x14336, .fp8e4m3⟩
  | .local _ .vmem, ⟨2, _⟩ => ⟨S3x512x1, .f32⟩
  | .local _ .vmem, ⟨3, _⟩ => ⟨S14336x4096, .fp8e4m3⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x1x4096, .f32⟩
  | .local _ .vmem, ⟨8, _⟩ => ⟨S3x1x1, .i32⟩
  | .local _ .vmem, ⟨9, _⟩ => ⟨S3x512x4096, .f32⟩
  | .local _ .vmem, ⟨10, _⟩ => ⟨S3x1x4096, .f32⟩
  | .local _ .vmem, ⟨11, _⟩ => ⟨S3x1x4096, .i8⟩
  | .local _ .vmem, ⟨12, _⟩ => ⟨S3x1x1, .f32⟩
  | _, _ => ⟨S3x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S3x512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x512x14336 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S14336x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x1x1 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x512x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x1x4096 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Words.lean ====
/- The integer side of the kernel's body: what it computes from the length word of the batch it is at. A length of at
   most 512 rows makes `(length + 127) / 128` row blocks of 128 (at most four); the accumulating loop runs once per row block,
   the normalising loop four times as often (blocks of 32 rows), the zero-filling loop over the rest of the sixteen blocks of
   32 rows, and the three remainder loops not at all. So every access the body assumes in bounds is in bounds. -/
module

public import proofs.«01_k».proof.Proof.Gen.KernelIdeal
public import Idealize.ShloMosaic.Lib.LoopRemainder

@[expose] public section

set_option maxRecDepth 16384

namespace Cert.KernelProof

open Cert.KernelIdeal
open Idealize.ShloMosaic Idealize.ShloMosaic.TcCoe

/-- The number of blocks of 128 rows that hold a row below the length. -/
def nc (v : BitVec 32) : ℕ := (v.toNat + 127) / 128

/-- A length of at most 512 rows needs at most four blocks. -/
theorem nc_le {v : BitVec 32} (h : v.toNat ≤ 512) : nc v ≤ 4 := by unfold nc; omega

/-- The block count as the body computes it (a signed division of `length + 127` by 128). -/
theorem blocks_eq {v : BitVec 32} (h : v.toNat ≤ 512) :
    Scalar.divsi (Scalar.addi v 127#32) 128#32 = BitVec.ofNat 32 (nc v) := by
  have key : ∀ n : Fin 513, Scalar.divsi (Scalar.addi (BitVec.ofNat 32 n.val) 127#32) 128#32
      = BitVec.ofNat 32 (nc (BitVec.ofNat 32 n.val)) := by decide +kernel
  have e : BitVec.ofNat 32 v.toNat = v := BitVec.eq_of_toNat_eq (by simp)
  have := key ⟨v.toNat, by omega⟩
  rwa [e] at this

/-- The body's loops as functions of the block count's word. -/
theorem t1_trips {v : BitVec 32} (h : v.toNat ≤ 512) : (k0_t1_loop v).trips = nc v := by
  have key : ∀ n : Fin 5, Scf.trips 0#32 (Scalar.addi 0#32 (Scalar.muli (Scalar.divsi (Scalar.subi (BitVec.ofNat 32 n.val) 0#32) 1#32) 1#32)) 1#32 = n.val := by
    decide +kernel
  have := key ⟨nc v, by have := nc_le h; omega⟩
  rw [← blocks_eq h] at this; exact this

theorem t3_trips {v : BitVec 32} (h : v.toNat ≤ 512) : (k0_t3_loop v).trips = 4 * nc v := by
  have key : ∀ n : Fin 5, Scf.trips 0#32 (Scalar.addi 0#32 (Scalar.muli (Scalar.divsi (Scalar.subi (Scalar.muli (BitVec.ofNat 32 n.val) 4#32) 0#32) 1#32) 1#32)) 1#32 = 4 * n.val := by
    decide +kernel
  have := key ⟨nc v, by have := nc_le h; omega⟩
  rw [← blocks_eq h] at this; exact this

theorem t5_trips {v : BitVec 32} (h : v.toNat ≤ 512) : (k0_t5_loop v).trips = 16 - 4 * nc v := by
  have key : ∀ n : Fin 5, Scf.trips (Scalar.muli (BitVec.ofNat 32 n.val) 4#32)
      (Scalar.addi (Scalar.muli (BitVec.ofNat 32 n.val) 4#32) (Scalar.muli (Scalar.divsi (Scalar.subi 16#32 (Scalar.muli (BitVec.ofNat 32 n.val) 4#32)) 1#32) 1#32)) 1#32
      = 16 - 4 * n.val := by
    decide +kernel
  have := key ⟨nc v, by have := nc_le h; omega⟩
  rw [← blocks_eq h] at this; exact this

/-- The remainder loops run no trip, whatever the word. -/
theorem t2_trips (v : BitVec 32) : (k0_t2_loop v).trips = 0 := Scf.rem_trips _ _
theorem t4_trips (v : BitVec 32) : (k0_t4_loop v).trips = 0 := Scf.rem_trips _ _
theorem t6_trips (v : BitVec 32) : (k0_t6_loop v).trips = 0 := Scf.rem_trips _ _

/-- The row of the 128-row block `k`, and of the 32-row block `k`. -/
theorem row128 {k : ℕ} (h : k < 4) : (Scalar.indexCast (Scalar.muli (Scf.iv 0#32 1#32 k) 128#32)).toNat = 128 * k := by
  have key : ∀ k : Fin 4, (Scalar.indexCast (Scalar.muli (Scf.iv 0#32 1#32 k.val) 128#32)).toNat = 128 * k.val := by decide +kernel
  exact key ⟨k, h⟩
theorem row32 {k : ℕ} (h : k < 16) : (Scalar.indexCast (Scalar.muli (Scf.iv 0#32 1#32 k) 32#32)).toNat = 32 * k := by
  have key : ∀ k : Fin 16, (Scalar.indexCast (Scalar.muli (Scf.iv 0#32 1#32 k.val) 32#32)).toNat = 32 * k.val := by decide +kernel
  exact key ⟨k, h⟩
/-- The row of the `k`-th zero-filled 32-row block, the normalised ones being `4 n` before it. -/
theorem rowZ {n k : ℕ} (hn : n < 5) (h : k < 16 - 4 * n) :
    (Scalar.indexCast (Scalar.muli (Scf.iv (Scalar.muli (BitVec.ofNat 32 n) 4#32) 1#32 k) 32#32)).toNat = 32 * (4 * n + k) := by
  have key : ∀ n : Fin 5, ∀ k : Fin 16, (Scalar.indexCast (Scalar.muli (Scf.iv (Scalar.muli (BitVec.ofNat 32 n.val) 4#32) 1#32 k.val) 32#32)).toNat = 32 * (4 * n.val + k.val) := by
    decide +kernel
  exact key ⟨n, hn⟩ ⟨k, by omega⟩
/-- The first column of the column block `j` of 512. -/
theorem col512 {j : ℕ} (h : j < 8) : (Scalar.indexCast (Scalar.muli (BitVec.ofNat 32 j) 512#32)).toNat = 512 * j := by
  have key : ∀ j : Fin 8, (Scalar.indexCast (Scalar.muli (BitVec.ofNat 32 j.val) 512#32)).toNat = 512 * j.val := by decide +kernel
  exact key ⟨j, h⟩

section Trip1
variable {v : BitVec 32} (hv : v.toNat ≤ 512)
include hv

theorem t1_lt (k : Fin (k0_t1_loop v).trips) : k.val < nc v := (t1_trips hv) ▸ k.isLt
theorem t3_lt (k : Fin (k0_t3_loop v).trips) : k.val < 4 * nc v := (t3_trips hv) ▸ k.isLt
theorem t5_lt (k : Fin (k0_t5_loop v).trips) : k.val < 16 - 4 * nc v := (t5_trips hv) ▸ k.isLt

theorem off2_eq (k : Fin (k0_t1_loop v).trips) : k0_off2 v k = ![0, 128 * k.val, 0] := by
  have := t1_lt hv k; have := nc_le hv
  show ![0, _, 0] = _; rw [row128 (by omega)]
theorem off3_eq (k : Fin (k0_t1_loop v).trips) : k0_off3 v k = ![128 * k.val, 0] := by
  have := t1_lt hv k; have := nc_le hv
  show ![_, 0] = _; rw [row128 (by omega)]
theorem off4_eq (k : Fin (k0_t1_loop v).trips) : k0_off4 v k = ![0, 128 * k.val, 0] := by
  have := t1_lt hv k; have := nc_le hv
  show ![0, _, 0] = _; rw [row128 (by omega)]
theorem off5_eq (i : grid0.Coords) (k : Fin (k0_t1_loop v).trips) : k0_off5 i v k = ![128 * k.val, 512 * (i 1).val] := by
  have := t1_lt hv k; have := nc_le hv; have h1 : (i 1).val < 8 := (i 1).isLt
  show ![_, _] = _; rw [row128 (by omega), col512 h1]
theorem off10_eq (k : Fin (k0_t3_loop v).trips) : k0_off10 v k = ![32 * k.val, 0] := by
  have := t3_lt hv k; have := nc_le hv
  show ![_, 0] = _; rw [row32 (by omega)]
theorem off11_eq (k : Fin (k0_t3_loop v).trips) : k0_off11 v k = ![0, 32 * k.val, 0] := by
  have := t3_lt hv k; have := nc_le hv
  show ![0, _, 0] = _; rw [row32 (by omega)]
theorem off14_eq (k : Fin (k0_t5_loop v).trips) : k0_off14 v k = ![0, 32 * (4 * nc v + k.val), 0] := by
  have := t5_lt hv k; have := nc_le hv
  show ![0, (Scalar.indexCast (Scalar.muli (Scf.iv (Scalar.muli (Scalar.divsi (Scalar.addi v 127#32) 128#32) 4#32) 1#32 k.val) 32#32)).toNat, 0] = _
  rw [blocks_eq hv, rowZ (by omega) (by omega)]

/-- The three loops that run have a meaning: they count up from a bound below 16 by one. -/
theorem t1_ok : (k0_t1_loop v).OK := by
  have key : ∀ n : Fin 5, Scf.OK 0#32 (Scalar.addi 0#32 (Scalar.muli (Scalar.divsi (Scalar.subi (BitVec.ofNat 32 n.val) 0#32) 1#32) 1#32)) 1#32 := by
    decide +kernel
  have := key ⟨nc v, by have := nc_le hv; omega⟩
  rw [← blocks_eq hv] at this; exact this
theorem t3_ok : (k0_t3_loop v).OK := by
  have key : ∀ n : Fin 5, Scf.OK 0#32 (Scalar.addi 0#32 (Scalar.muli (Scalar.divsi (Scalar.subi (Scalar.muli (BitVec.ofNat 32 n.val) 4#32) 0#32) 1#32) 1#32)) 1#32 := by
    decide +kernel
  have := key ⟨nc v, by have := nc_le hv; omega⟩
  rw [← blocks_eq hv] at this; exact this
theorem t5_ok : (k0_t5_loop v).OK := by
  have key : ∀ n : Fin 5, Scf.OK (Scalar.muli (BitVec.ofNat 32 n.val) 4#32)
      (Scalar.addi (Scalar.muli (BitVec.ofNat 32 n.val) 4#32) (Scalar.muli (Scalar.divsi (Scalar.subi 16#32 (Scalar.muli (BitVec.ofNat 32 n.val) 4#32)) 1#32) 1#32)) 1#32 := by
    decide +kernel
  have := key ⟨nc v, by have := nc_le hv; omega⟩
  rw [← blocks_eq hv] at this; exact this

/-- The row multiples the body states: of 128, and of 32. -/
theorem mult1_dvd (k : Fin (k0_t1_loop v).trips) : 128 ∣ (k0_mult1 v k).toNat := by
  have := t1_lt hv k; have := nc_le hv
  have e : (k0_mult1 v k).toNat = 128 * k.val := row128 (by omega)
  rw [e]; exact Nat.dvd_mul_right _ _
theorem mult5_dvd (k : Fin (k0_t3_loop v).trips) : 32 ∣ (k0_mult5 v k).toNat := by
  have := t3_lt hv k; have := nc_le hv
  have e : (k0_mult5 v k).toNat = 32 * k.val := row32 (by omega)
  rw [e]; exact Nat.dvd_mul_right _ _
theorem mult7_dvd (k : Fin (k0_t5_loop v).trips) : 32 ∣ (k0_mult7 v k).toNat := by
  have := t5_lt hv k; have := nc_le hv
  have e : (k0_mult7 v k).toNat = 32 * (4 * nc v + k.val) := by
    show (Scalar.indexCast (Scalar.muli (Scf.iv (Scalar.muli (Scalar.divsi (Scalar.addi v 127#32) 128#32) 4#32) 1#32 k.val) 32#32)).toNat = _
    rw [blocks_eq hv, rowZ (by omega) (by omega)]
  rw [e]; exact Nat.dvd_mul_right _ _

/-- THE SIDE CONDITION the body assumes of the length word holds of every length of at most 512 rows. -/
theorem chk_of_le (i : grid0.Coords) : k0_chk1 i v := by
  have hn := nc_le hv
  have h1 : (i 1).val < 8 := (i 1).isLt
  have none2 : ∀ k : Fin (k0_t2_loop v).trips, False := fun k => absurd (lt_of_lt_of_eq k.isLt (t2_trips v)) (Nat.not_lt_zero _)
  have none4 : ∀ k : Fin (k0_t4_loop v).trips, False := fun k => absurd (lt_of_lt_of_eq k.isLt (t4_trips v)) (Nat.not_lt_zero _)
  have none6 : ∀ k : Fin (k0_t6_loop v).trips, False := fun k => absurd (lt_of_lt_of_eq k.isLt (t6_trips v)) (Nat.not_lt_zero _)
  refine ⟨t1_ok hv, mult1_dvd hv, fun k => ?_, fun k => ?_, fun k => ?_, fun k => ?_, Scf.rem_ok _ _,
    fun k => (none2 k).elim, fun k => (none2 k).elim, fun k => (none2 k).elim, fun k => (none2 k).elim, fun k => (none2 k).elim,
    fun _ => t3_ok hv, fun k _ => mult5_dvd hv k, fun k _ => ?_, fun k _ => ?_, fun _ => Scf.rem_ok _ _,
    fun k => (none4 k).elim, fun k => (none4 k).elim, fun k => (none4 k).elim,
    fun _ => t5_ok hv, fun k _ => mult7_dvd hv k, fun k _ => ?_, fun _ => Scf.rem_ok _ _,
    fun k => (none6 k).elim, fun k => (none6 k).elim⟩
  · have := t1_lt hv k
    rw [off2_eq hv]; intro a; fin_cases a <;> simp <;> omega
  · have := t1_lt hv k
    rw [off3_eq hv]; intro a; fin_cases a <;> simp <;> omega
  · have := t1_lt hv k
    rw [off4_eq hv]; intro a; fin_cases a <;> simp <;> omega
  · have := t1_lt hv k
    rw [off5_eq hv]; intro a; fin_cases a <;> simp <;> omega
  · have := t3_lt hv k
    rw [off10_eq hv]; intro a; fin_cases a <;> simp <;> omega
  · have := t3_lt hv k
    rw [off11_eq hv]; intro a; fin_cases a <;> simp <;> omega
  · have := t5_lt hv k
    rw [off14_eq hv]; intro a; fin_cases a <;> simp <;> omega

end Trip1

end Cert.KernelProof
-- ==== Proof.Spec.lean ====
/- What one batch of the kernel computes, over the contents of its operands' blocks: the row block `k` of the sum
    `x + (h · w) * h_scale * w_scale + b`, the masked normalised rows, their running column sum, and the results made of it.
    Stated through the printed body's own values (`Gen.k0_payN`), at any float instance. -/
module

public import proofs.«01_k».proof.Proof.Words
public import proofs.«01_k».proof.Proof.Gen.KernelIdeal.Skeleton
public import Idealize.ShloMosaic.Lib.VecWindow

@[expose] public section

set_option maxRecDepth 16384

noncomputable section

namespace Cert.KernelProof

open Cert.KernelIdeal Cert.KernelIdeal.Gen
open Idealize.ShloMosaic Idealize.ShloMosaic.TcCoe

variable {F : FTy → Type} [FloatOps F]

/-- Windows of the operands: a block of rows of a rank-2 or of a batch's rank-3 array. -/
abbrev rows3 {α : Type} {N W : ℕ} (x : Shape.Idx ⟨3, ![1, N, W]⟩ → α) (o n : ℕ) (h : o + n ≤ N) : Shape.Idx ⟨3, ![1, n, W]⟩ → α :=
  VecWindow.window (s := ⟨3, ![1, N, W]⟩) x ![0, o, 0] ![1, n, W] (by intro a; fin_cases a <;> simp <;> omega)
abbrev rows2 {α : Type} {N W : ℕ} (x : Shape.Idx ⟨2, ![N, W]⟩ → α) (o n w : ℕ) (h : o + n ≤ N) (hw : w ≤ W) : Shape.Idx ⟨2, ![n, w]⟩ → α :=
  VecWindow.window (s := ⟨2, ![N, W]⟩) x ![o, 0] ![n, w] (by intro a; fin_cases a <;> simp <;> omega)

/-- Row block `k` of one column block of the sum, as the body's loop computes it. -/
def yBlk (H : Vec F S1x512x14336 .fp8e4m3) (W : Vec F S14336x512 .fp8e4m3) (X : Vec F S1x512x512 .bf16) (R : Vec F S512x128 .f32)
    (WS B : Vec F S1x512 .f32) (k : ℕ) (hk : k < 4) : FVec F S128x512 .f32 :=
  k0_pay5 (rows3 H (128 * k) 128 (by omega)) W (rows2 R (128 * k) 128 1 (by omega) (by omega)) (rows3 X (128 * k) 128 (by omega)) WS B

/-- The scales of one batch's rows laid along the rows of a 512 by 128 array: row block `j` is what the body stores from lanes `128 j` of the scales. -/
def RSv (HS : Vec F S1x1x512 .f32) : Vec F S512x128 .f32 := fun y =>
  k0_pay1 (VecWindow.window (s := S1x1x512) HS ![0, 0, 128 * ((y 0).val / 128)] S1x1x128.size (by
      have h : (y 0).val < 512 := (y 0).isLt
      intro a; fin_cases a <;> simp <;> omega))
    (Rect.unitLocal (s := S512x128) (off := ![128 * ((y 0).val / 128), 0]) (size := S128x128.size) y (by
      have h : (y 0).val < 512 := (y 0).isLt
      have h1 : (y 1).val < 128 := (y 1).isLt
      intro a; fin_cases a <;> simp <;> omega))

/-- Row block `k` (of 32 rows) of the normalised, masked result, from the whole sum `Y`; zeros past the blocks the length reaches. -/
def zBlk (Y : Vec F S512x4096 .f32) (G BE : Vec F S1x4096 .f32) (v : BitVec 32) (k : ℕ) : FVec F S1x32x4096 .f32 :=
  if h : k < (k0_t3_loop v).trips ∧ k < 16 then k0_pay12 v ⟨k, h.1⟩ (rows2 Y (32 * k) 32 4096 (by omega) (by omega)) G BE
  else k0_pay17 (F := F)

/-- The normalised, masked rows of one batch. -/
def zmv (Y : Vec F S512x4096 .f32) (G BE : Vec F S1x4096 .f32) (v : BitVec 32) : Vec F S1x512x4096 .f32 := fun y =>
  zBlk Y G BE v ((y 1).val / 32) (Rect.unitLocal (s := S1x512x4096) (off := ![0, 32 * ((y 1).val / 32), 0]) (size := S1x32x4096.size) y (by
    have h : (y 1).val < 512 := (y 1).isLt
    have h0 : (y 0).val < 1 := (y 0).isLt
    have h2 : (y 2).val < 4096 := (y 2).isLt
    intro a; fin_cases a <;> simp <;> omega))

/-- The running column sum of the normalised rows after `k` row blocks. -/
def accv (Y : Vec F S512x4096 .f32) (G BE : Vec F S1x4096 .f32) (v : BitVec 32) : ℕ → FVec F S1x4096 .f32
  | 0 => k0_pay10 (F := F)
  | k + 1 => if h : k < (k0_t3_loop v).trips ∧ k < 16 then
      k0_pay13 v ⟨k, h.1⟩ (accv Y G BE v k) (rows2 Y (32 * k) 32 4096 (by omega) (by omega)) G BE
    else accv Y G BE v k

/-- The column sum over all row blocks, and the three results made of it: the mean over the rows below the length, its
    quantised direction and the quantisation's scale. -/
def accEnd (Y : Vec F S512x4096 .f32) (G BE : Vec F S1x4096 .f32) (v : BitVec 32) : FVec F S1x4096 .f32 := accv Y G BE v (4 * nc v)
def meanv (Y : Vec F S512x4096 .f32) (G BE : Vec F S1x4096 .f32) (v : BitVec 32) : Vec F S1x1x4096 .f32 := k0_pay20 v (accEnd Y G BE v)
def codesv (Y : Vec F S512x4096 .f32) (G BE : Vec F S1x4096 .f32) (v : BitVec 32) : Vec F S1x1x4096 .i8 :=
  k0_pay8 (k0_pay21 v (accEnd Y G BE v)) (k0_pay23 v (accEnd Y G BE v)) (k0_pay24 v (accEnd Y G BE v)) (k0_pay25 (F := F))
def scalesv (Y : Vec F S512x4096 .f32) (G BE : Vec F S1x4096 .f32) (v : BitVec 32) : Vec F S1x1x128 .f32 :=
  k0_pay9 (k0_pay23 v (accEnd Y G BE v)) (k0_pay24 v (accEnd Y G BE v)) (k0_pay25 (F := F))

end Cert.KernelProof
-- ==== Proof.Whole.lean ====
/- The sum `x + (h · w) * h_scale * w_scale + b` of one batch over all its columns, as a function of the whole operand arrays: the
    block of rows and columns of each operand that a grid step stages, and the sum pieced together from the steps' column blocks. -/
module

public import proofs.«01_k».proof.Proof.Spec

@[expose] public section

set_option maxRecDepth 16384

noncomputable section

namespace Cert.KernelProof

open Cert.KernelIdeal Cert.KernelIdeal.Gen
open Idealize.ShloMosaic Idealize.ShloMosaic.TcCoe

variable {F : FTy → Type} [FloatOps F]

/-- Batch `b` of a rank-3 array, and of it the columns of block `n`; the columns of block `n` of a rank-2 array. -/
abbrev batch3 {α : Type} {N W : ℕ} (x : Shape.Idx ⟨3, ![3, N, W]⟩ → α) (b : ℕ) (hb : b < 3) : Shape.Idx ⟨3, ![1, N, W]⟩ → α :=
  VecWindow.window (s := ⟨3, ![3, N, W]⟩) x ![b, 0, 0] ![1, N, W] (by intro a; fin_cases a <;> simp <;> omega)
abbrev cols3 {α : Type} {N : ℕ} (x : Shape.Idx ⟨3, ![3, N, 4096]⟩ → α) (b n : ℕ) (hb : b < 3) (hn : n < 8) : Shape.Idx ⟨3, ![1, N, 512]⟩ → α :=
  VecWindow.window (s := ⟨3, ![3, N, 4096]⟩) x ![b, 0, 512 * n] ![1, N, 512] (by intro a; fin_cases a <;> simp <;> omega)
abbrev cols2 {α : Type} {N : ℕ} (x : Shape.Idx ⟨2, ![N, 4096]⟩ → α) (n : ℕ) (hn : n < 8) : Shape.Idx ⟨2, ![N, 512]⟩ → α :=
  VecWindow.window (s := ⟨2, ![N, 4096]⟩) x ![0, 512 * n] ![N, 512] (by intro a; fin_cases a <;> simp <;> omega)

/-- The sum of batch `b`: row block `d / 128` and column block `n` by the body's own formula over the staged blocks. -/
def sumv (H : Vec F S3x512x14336 .fp8e4m3) (W : Vec F S14336x4096 .fp8e4m3) (X : Vec F S3x512x4096 .bf16) (HS : Vec F S3x1x512 .f32)
    (WS B : Vec F S1x4096 .f32) (b : ℕ) (hb : b < 3) : Vec F S512x4096 .f32 := fun y =>
  have h0 : (y 0).val < 512 := (y 0).isLt
  have h1 : (y 1).val < 4096 := (y 1).isLt
  yBlk (batch3 H b hb) (cols2 W ((y 1).val / 512) (by omega)) (cols3 X b ((y 1).val / 512) hb (by omega)) (RSv (batch3 HS b hb))
    (cols2 WS ((y 1).val / 512) (by omega)) (cols2 B ((y 1).val / 512) (by omega)) ((y 0).val / 128) (by omega)
    (Rect.unitLocal (s := S512x4096) (off := ![128 * ((y 0).val / 128), 512 * ((y 1).val / 512)]) (size := S128x512.size) y (by
      intro a; fin_cases a <;> simp <;> omega))

/-- The sum at a row of block `k` and a column of block `n` is the block's own value there. -/
theorem sumv_block (H : Vec F S3x512x14336 .fp8e4m3) (W : Vec F S14336x4096 .fp8e4m3) (X : Vec F S3x512x4096 .bf16) (HS : Vec F S3x1x512 .f32)
    (WS B : Vec F S1x4096 .f32) (b : ℕ) (hb : b < 3) (n : ℕ) (hn : n < 8) (k : ℕ) (hk : k < 4) (x : S128x512.Idx) (y : S512x4096.Idx)
    (h0 : (y 0).val = 128 * k + (x 0).val) (h1 : (y 1).val = 512 * n + (x 1).val) :
    yBlk (batch3 H b hb) (cols2 W n hn) (cols3 X b n hb hn) (RSv (batch3 HS b hb)) (cols2 WS n hn) (cols2 B n hn) k hk x
      = sumv H W X HS WS B b hb y := by
  have x0 : (x 0).val < 128 := (x 0).isLt
  have x1 : (x 1).val < 512 := (x 1).isLt
  obtain rfl : k = (y 0).val / 128 := by omega
  obtain rfl : n = (y 1).val / 512 := by omega
  unfold sumv
  refine congrArg _ (funext fun a => Fin.ext ?_)
  rw [Rect.unitLocal_val]
  match a with
  | ⟨0, _⟩ => show (x 0).val = (y 0).val - 128 * ((y 0).val / 128); omega
  | ⟨1, _⟩ => show (x 1).val = (y 1).val - 512 * ((y 1).val / 512); omega

end Cert.KernelProof
-- ==== Proof.Host.lean ====
/- The kernel's launch, before its body: the arrays as the grid finds them, the lines around the grid, the prefetched length
    table, and the blocks the grid steps stage, read off the whole arrays. -/
module

public import proofs.«01_k».proof.Defs
public import proofs.«01_k».proof.Proof.Whole
public import proofs.«01_k».proof.Proof.Gen.KernelIdeal.Launch
public import Idealize.ShloMosaic.Lib.Pipeline.Kit
public import Idealize.ShloMosaic.Lib.Pipeline.FrameBody
public import Idealize.ShloMosaic.Lib.Pipeline.FrameSuffix
public import Idealize.ShloMosaic.Lib.Pipeline.TableIdle

@[expose] public section

set_option maxRecDepth 16384

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-- The buffers as the grid finds them: after the host lines before it. -/
abbrev V0 (c : Dev nD) : Valuation τ sig (Elt F) := StableHlo.after (List.flatten [hostOps0]) (fun b => m (c, b))
/-- One of them. -/
abbrev V (c : Dev nD) (b : Ref sig .tc) : Buf (Elt F) ((c : Thread nD τ).loc b) := V0 m c (Proc.devRef .tc b)

/-- The prefetched table: the lengths, as launched on the one device. -/
def adm : (p : Fin 1) → (pcfgs (F := F) p).Adm := fun _ => ⟨fun k => V m 0 (pre0.ref k), trivial⟩

/-- The host lines before and after the grid allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- The whole program is the host lines, the grid, the host lines. -/
theorem hmain (𝒱₀ : Variants) : Pipeline.HMainPK (Ix := Unit) (Name := ℕ) (U := UR sig nD τ) (Lvl := ℕ) pcfgs 0 defs₀ 𝒱₀ m (main (F := F))
      (fun c b => V0 m c (Proc.devRef .tc b)) (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the grid touch its arrays and the buffers beside it only, not the table. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl | rfl | rfl | rfl
  all_goals intro j; fin_cases j <;> simp only [StableHlo.unary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write none of its arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- A buffer that no host line before the grid writes is found as launched. -/
theorem V_keep (c : Dev nD) (b : Ref sig .tc) (h0 : b ≠ main_v0) (h1 : b ≠ main_v1) (h2 : b ≠ main_v2) (h3 : b ≠ main_v3) (h4 : b ≠ main_v4) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact ⟨StableHlo.devRef_ne_of_ne h0, StableHlo.devRef_ne_of_ne h1, StableHlo.devRef_ne_of_ne h2, StableHlo.devRef_ne_of_ne h3, StableHlo.devRef_ne_of_ne h4⟩))

/-- A buffer that is none of the grid's arrays and that no host line writes ends as launched. -/
theorem W_keep (dats : (p : Fin 1) → (c : Dev nD) → Dat τ (Elt F) Unit ℕ (UR sig nD τ) ℕ (Pipeline.pin pcfgs (adm m) p) c) (c : Dev nD)
    (b : Ref sig .tc) (h0 : b ≠ main_v0) (h1 : b ≠ main_v1) (h2 : b ≠ main_v2) (h3 : b ≠ main_v3) (h4 : b ≠ main_v4)
    (h6 : b ≠ main_v6) (h7 : b ≠ main_v7) (h8 : b ≠ main_v8) (h9 : b ≠ main_v9) (hw : ∀ w, Pipeline.arrRef spec0 w ≠ b) :
    Pipeline.afterTail pcfgs (adm m) dats 0 (V0 m) [hostOps1] c b = m ((c : Thread nD τ).loc b) := by
  unfold Pipeline.afterTail
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      exact ⟨StableHlo.devRef_ne_of_ne h6, StableHlo.devRef_ne_of_ne h7, StableHlo.devRef_ne_of_ne h8, StableHlo.devRef_ne_of_ne h9⟩)),
    Pipeline.withArrays_of_ne _ c (V0 m c) _ b hw]
  exact V_keep m c b h0 h1 h2 h3 h4

/-! ## The staged blocks -/

/-- Window `w`'s block at point `t`, read off its array as the grid finds it. -/
def iblk (c : Dev nD) (w : Fin (cfg0 (adm m 0)).W) (t : Fin (cfg0 (adm m 0)).N) :
    (((cfg0 (adm m 0)).win w).xblock ((cfg0 (adm m 0)).grid.coords t)).Idx → Elt F ((cfg0 (adm m 0)).win w).elt :=
  (((cfg0 (adm m 0)).win w).blk t).view.read (Elt F) (V m c (Pipeline.arrRef spec0 w))

/-- Input window 0's staging buffer holds its block at every point, for proof data that keep it there. -/
theorem before_0_of {c : Dev nD} (dat : Dat τ (Elt F) Unit ℕ (UR sig nD τ) ℕ (cfg0 (adm m 0)) c) (hA : dat.A 0 = V m c (Pipeline.arrRef spec0 0))
    (hafter : ∀ t, dat.after 0 t = iblk m c 0 t) (t : Fin (cfg0 (adm m 0)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, for proof data that keep it there. -/
theorem before_1_of {c : Dev nD} (dat : Dat τ (Elt F) Unit ℕ (UR sig nD τ) ℕ (cfg0 (adm m 0)) c) (hA : dat.A 1 = V m c (Pipeline.arrRef spec0 1))
    (hafter : ∀ t, dat.after 1 t = iblk m c 1 t) (t : Fin (cfg0 (adm m 0)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, for proof data that keep it there. -/
theorem before_2_of {c : Dev nD} (dat : Dat τ (Elt F) Unit ℕ (UR sig nD τ) ℕ (cfg0 (adm m 0)) c) (hA : dat.A 2 = V m c (Pipeline.arrRef spec0 2))
    (hafter : ∀ t, dat.after 2 t = iblk m c 2 t) (t : Fin (cfg0 (adm m 0)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, for proof data that keep it there. -/
theorem before_3_of {c : Dev nD} (dat : Dat τ (Elt F) Unit ℕ (UR sig nD τ) ℕ (cfg0 (adm m 0)) c) (hA : dat.A 3 = V m c (Pipeline.arrRef spec0 3))
    (hafter : ∀ t, dat.after 3 t = iblk m c 3 t) (t : Fin (cfg0 (adm m 0)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, for proof data that keep it there. -/
theorem before_4_of {c : Dev nD} (dat : Dat τ (Elt F) Unit ℕ (UR sig nD τ) ℕ (cfg0 (adm m 0)) c) (hA : dat.A 4 = V m c (Pipeline.arrRef spec0 4))
    (hafter : ∀ t, dat.after 4 t = iblk m c 4 t) (t : Fin (cfg0 (adm m 0)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, for proof data that keep it there. -/
theorem before_5_of {c : Dev nD} (dat : Dat τ (Elt F) Unit ℕ (UR sig nD τ) ℕ (cfg0 (adm m 0)) c) (hA : dat.A 5 = V m c (Pipeline.arrRef spec0 5))
    (hafter : ∀ t, dat.after 5 t = iblk m c 5 t) (t : Fin (cfg0 (adm m 0)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, for proof data that keep it there. -/
theorem before_6_of {c : Dev nD} (dat : Dat τ (Elt F) Unit ℕ (UR sig nD τ) ℕ (cfg0 (adm m 0)) c) (hA : dat.A 6 = V m c (Pipeline.arrRef spec0 6))
    (hafter : ∀ t, dat.after 6 t = iblk m c 6 t) (t : Fin (cfg0 (adm m 0)).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block at every point, for proof data that keep it there. -/
theorem before_7_of {c : Dev nD} (dat : Dat τ (Elt F) Unit ℕ (UR sig nD τ) ℕ (cfg0 (adm m 0)) c) (hA : dat.A 7 = V m c (Pipeline.arrRef spec0 7))
    (hafter : ∀ t, dat.after 7 t = iblk m c 7 t) (t : Fin (cfg0 (adm m 0)).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Grid point `t`'s two coordinates: the batch and the column block. -/
abbrev bat (t : Fin grid0.N) : ℕ := (grid0.coords t 0).val
abbrev col (t : Fin grid0.N) : ℕ := (grid0.coords t 1).val
theorem bat_lt (t : Fin grid0.N) : bat t < 3 := (grid0.coords t 0).isLt
theorem col_lt (t : Fin grid0.N) : col t < 8 := (grid0.coords t 1).isLt

/-- Window 0's block is the piece of its array at the point's coordinates. -/
theorem iblk_0 (c : Dev nD) (t : Fin grid0.N) : (iblk m c 0 t : Vec F S1x512x14336 .fp8e4m3) = batch3 (V m c main_arg1) (bat t) (bat_lt t) := by
  have hi : ∀ t : Fin grid0.N, cc0_transform_0 (grid0.coords t) 0 = bat t ∧ cc0_transform_0 (grid0.coords t) 1 = 0 ∧ cc0_transform_0 (grid0.coords t) 2 = 0 := by decide +kernel
  obtain ⟨h0, h1, h2⟩ := hi t
  funext j
  let y : S1x512x14336.Idx := j
  unfold iblk
  rw [View.read_apply]
  refine congrArg (V m c (Pipeline.arrRef spec0 0)) (funext fun a => Fin.ext ?_)
  match a with
  | ⟨0, _⟩ => show cc0_transform_0 (grid0.coords t) 0 * 1 + 1 * (y 0).val = bat t + 1 * (y 0).val; rw [h0]; all_goals omega
  | ⟨1, _⟩ => show cc0_transform_0 (grid0.coords t) 1 * 512 + 1 * (y 1).val = 0 + 1 * (y 1).val; rw [h1]; all_goals omega
  | ⟨2, _⟩ => show cc0_transform_0 (grid0.coords t) 2 * 14336 + 1 * (y 2).val = 0 + 1 * (y 2).val; rw [h2]; all_goals omega

/-- Window 1's block is the piece of its array at the point's coordinates. -/
theorem iblk_1 (c : Dev nD) (t : Fin grid0.N) : (iblk m c 1 t : Vec F S14336x512 .fp8e4m3) = cols2 (V m c main_arg3) (col t) (col_lt t) := by
  have hi : ∀ t : Fin grid0.N, cc0_transform_1 (grid0.coords t) 0 = 0 ∧ cc0_transform_1 (grid0.coords t) 1 = col t := by decide +kernel
  obtain ⟨h0, h1⟩ := hi t
  funext j
  let y : S14336x512.Idx := j
  unfold iblk
  rw [View.read_apply]
  refine congrArg (V m c (Pipeline.arrRef spec0 1)) (funext fun a => Fin.ext ?_)
  match a with
  | ⟨0, _⟩ => show cc0_transform_1 (grid0.coords t) 0 * 14336 + 1 * (y 0).val = 0 + 1 * (y 0).val; rw [h0]; all_goals omega
  | ⟨1, _⟩ => show cc0_transform_1 (grid0.coords t) 1 * 512 + 1 * (y 1).val = 512 * col t + 1 * (y 1).val; rw [h1]; all_goals omega

/-- Window 2's block is the piece of its array at the point's coordinates. -/
theorem iblk_2 (c : Dev nD) (t : Fin grid0.N) : (iblk m c 2 t : Vec F S1x512x512 .bf16) = cols3 (V m c main_arg0) (bat t) (col t) (bat_lt t) (col_lt t) := by
  have hi : ∀ t : Fin grid0.N, cc0_transform_2 (grid0.coords t) 0 = bat t ∧ cc0_transform_2 (grid0.coords t) 1 = 0 ∧ cc0_transform_2 (grid0.coords t) 2 = col t := by decide +kernel
  obtain ⟨h0, h1, h2⟩ := hi t
  funext j
  let y : S1x512x512.Idx := j
  unfold iblk
  rw [View.read_apply]
  refine congrArg (V m c (Pipeline.arrRef spec0 2)) (funext fun a => Fin.ext ?_)
  match a with
  | ⟨0, _⟩ => show cc0_transform_2 (grid0.coords t) 0 * 1 + 1 * (y 0).val = bat t + 1 * (y 0).val; rw [h0]; all_goals omega
  | ⟨1, _⟩ => show cc0_transform_2 (grid0.coords t) 1 * 512 + 1 * (y 1).val = 0 + 1 * (y 1).val; rw [h1]; all_goals omega
  | ⟨2, _⟩ => show cc0_transform_2 (grid0.coords t) 2 * 512 + 1 * (y 2).val = 512 * col t + 1 * (y 2).val; rw [h2]; all_goals omega

/-- Window 3's block is the piece of its array at the point's coordinates. -/
theorem iblk_3 (c : Dev nD) (t : Fin grid0.N) : (iblk m c 3 t : Vec F S1x1x512 .f32) = batch3 (V m c main_v0) (bat t) (bat_lt t) := by
  have hi : ∀ t : Fin grid0.N, cc0_transform_3 (grid0.coords t) 0 = bat t ∧ cc0_transform_3 (grid0.coords t) 1 = 0 ∧ cc0_transform_3 (grid0.coords t) 2 = 0 := by decide +kernel
  obtain ⟨h0, h1, h2⟩ := hi t
  funext j
  let y : S1x1x512.Idx := j
  unfold iblk
  rw [View.read_apply]
  refine congrArg (V m c (Pipeline.arrRef spec0 3)) (funext fun a => Fin.ext ?_)
  match a with
  | ⟨0, _⟩ => show cc0_transform_3 (grid0.coords t) 0 * 1 + 1 * (y 0).val = bat t + 1 * (y 0).val; rw [h0]; all_goals omega
  | ⟨1, _⟩ => show cc0_transform_3 (grid0.coords t) 1 * 1 + 1 * (y 1).val = 0 + 1 * (y 1).val; rw [h1]; all_goals omega
  | ⟨2, _⟩ => show cc0_transform_3 (grid0.coords t) 2 * 512 + 1 * (y 2).val = 0 + 1 * (y 2).val; rw [h2]; all_goals omega

/-- Window 4's block is the piece of its array at the point's coordinates. -/
theorem iblk_4 (c : Dev nD) (t : Fin grid0.N) : (iblk m c 4 t : Vec F S1x512 .f32) = cols2 (V m c main_v1) (col t) (col_lt t) := by
  have hi : ∀ t : Fin grid0.N, cc0_transform_4 (grid0.coords t) 0 = 0 ∧ cc0_transform_4 (grid0.coords t) 1 = col t := by decide +kernel
  obtain ⟨h0, h1⟩ := hi t
  funext j
  let y : S1x512.Idx := j
  unfold iblk
  rw [View.read_apply]
  refine congrArg (V m c (Pipeline.arrRef spec0 4)) (funext fun a => Fin.ext ?_)
  match a with
  | ⟨0, _⟩ => show cc0_transform_4 (grid0.coords t) 0 * 1 + 1 * (y 0).val = 0 + 1 * (y 0).val; rw [h0]; all_goals omega
  | ⟨1, _⟩ => show cc0_transform_4 (grid0.coords t) 1 * 512 + 1 * (y 1).val = 512 * col t + 1 * (y 1).val; rw [h1]; all_goals omega

/-- Window 5's block is the piece of its array at the point's coordinates. -/
theorem iblk_5 (c : Dev nD) (t : Fin grid0.N) : (iblk m c 5 t : Vec F S1x512 .f32) = cols2 (V m c main_v2) (col t) (col_lt t) := by
  have hi : ∀ t : Fin grid0.N, cc0_transform_5 (grid0.coords t) 0 = 0 ∧ cc0_transform_5 (grid0.coords t) 1 = col t := by decide +kernel
  obtain ⟨h0, h1⟩ := hi t
  funext j
  let y : S1x512.Idx := j
  unfold iblk
  rw [View.read_apply]
  refine congrArg (V m c (Pipeline.arrRef spec0 5)) (funext fun a => Fin.ext ?_)
  match a with
  | ⟨0, _⟩ => show cc0_transform_5 (grid0.coords t) 0 * 1 + 1 * (y 0).val = 0 + 1 * (y 0).val; rw [h0]; all_goals omega
  | ⟨1, _⟩ => show cc0_transform_5 (grid0.coords t) 1 * 512 + 1 * (y 1).val = 512 * col t + 1 * (y 1).val; rw [h1]; all_goals omega

/-- Window 6's block is the piece of its array at the point's coordinates. -/
theorem iblk_6 (c : Dev nD) (t : Fin grid0.N) : (iblk m c 6 t : Vec F S1x4096 .f32) = V m c main_v3 := by
  have hi : ∀ t : Fin grid0.N, cc0_transform_6 (grid0.coords t) 0 = 0 ∧ cc0_transform_6 (grid0.coords t) 1 = 0 := by decide +kernel
  obtain ⟨h0, h1⟩ := hi t
  funext j
  let y : S1x4096.Idx := j
  unfold iblk
  rw [View.read_apply]
  refine congrArg (V m c (Pipeline.arrRef spec0 6)) (funext fun a => Fin.ext ?_)
  match a with
  | ⟨0, _⟩ => show cc0_transform_6 (grid0.coords t) 0 * 1 + 1 * (y 0).val = (y 0).val; rw [h0]; all_goals omega
  | ⟨1, _⟩ => show cc0_transform_6 (grid0.coords t) 1 * 4096 + 1 * (y 1).val = (y 1).val; rw [h1]; all_goals omega

/-- Window 7's block is the piece of its array at the point's coordinates. -/
theorem iblk_7 (c : Dev nD) (t : Fin grid0.N) : (iblk m c 7 t : Vec F S1x4096 .f32) = V m c main_v4 := by
  have hi : ∀ t : Fin grid0.N, cc0_transform_7 (grid0.coords t) 0 = 0 ∧ cc0_transform_7 (grid0.coords t) 1 = 0 := by decide +kernel
  obtain ⟨h0, h1⟩ := hi t
  funext j
  let y : S1x4096.Idx := j
  unfold iblk
  rw [View.read_apply]
  refine congrArg (V m c (Pipeline.arrRef spec0 7)) (funext fun a => Fin.ext ?_)
  match a with
  | ⟨0, _⟩ => show cc0_transform_7 (grid0.coords t) 0 * 1 + 1 * (y 0).val = (y 0).val; rw [h0]; all_goals omega
  | ⟨1, _⟩ => show cc0_transform_7 (grid0.coords t) 1 * 4096 + 1 * (y 1).val = (y 1).val; rw [h1]; all_goals omega

end Cert.KernelProof
-- ==== Proof.Loop1.lean ====
/- The accumulating loop of the kernel's body: one trip computes one block of 128 rows of the current column block of the
    sum and puts it into the scratch, so that after the loop the scratch holds the sum on the rows the length reaches. -/
module

public import proofs.«01_k».proof.Proof.Spec
public import Idealize.ShloMosaic.Lib.Exec
public import Idealize.ShloMosaic.Lib.Tactic
public import Idealize.ShloMosaic.Lib.Pipeline.Kit
public import Idealize.ShloMosaic.Lib.Pipeline.TableIdle
public import Idealize.ShloMosaic.Lib.LoopEntry
public import Idealize.ShloMosaic.Lib.LoopRemainder

@[expose] public section

set_option maxRecDepth 16384

noncomputable section

namespace Cert.KernelProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A memref of core `c` held whole at the contents `X`. -/
abbrev at_ (c : Dev nD) {sp : Space} {S : Shape} {e : EltTy} (M : Memref sig .tc sp S e) (X : S.Idx → Elt F e) : sProp 𝕄 :=
  M.view.loc (c : Thread nD τ) ↦[M.view.set]{fullShare} M.view.rep X

/-- The sum's scratch holds `Yv` on the rows below `128 n` of the columns below `512 j`. -/
def GoodY (Yv Y : Vec F S512x4096 .f32) (n j : ℕ) : Prop :=
  ∀ y : S512x4096.Idx, (y 0).val < 128 * n → (y 1).val < 512 * j → Y y = Yv y

/-- The accumulating loop before trip `k`: what column block `j` has so far. -/
def Inv1 (c : Dev nD) (arg3 : Memref sig .tc .vmem S1x512x14336 .fp8e4m3) (arg4 : Memref sig .tc .vmem S14336x512 .fp8e4m3)
    (arg5 : Memref sig .tc .vmem S1x512x512 .bf16) (arg7 arg8 : Memref sig .tc .vmem S1x512 .f32) (arg15 : Memref sig .tc .vmem S512x4096 .f32)
    (arg16 : Memref sig .tc .vmem S512x128 .f32)
    (H : Vec F S1x512x14336 .fp8e4m3) (W : Vec F S14336x512 .fp8e4m3) (X : Vec F S1x512x512 .bf16) (R : Vec F S512x128 .f32) (WS B : Vec F S1x512 .f32)
    (Yv : Vec F S512x4096 .f32) (n j k : ℕ) (_ : BitVec 32) : sProp 𝕄 :=
  iprop(at_ c arg3 H ∗ at_ c arg4 W ∗ at_ c arg5 X ∗ at_ c arg7 WS ∗ at_ c arg8 B ∗ at_ c arg16 R
    ∗ ∃ Y, at_ c arg15 Y ∗ ⌜GoodY Yv Y n j ∧ ∀ y : S512x4096.Idx, (y 0).val < 128 * k → 512 * j ≤ (y 1).val → (y 1).val < 512 * (j + 1) → Y y = Yv y⌝)

/-- A block of the sum put into the scratch at row block `k`, column block `j`: what the loop's invariant gains by a trip. -/
theorem good_put (Yv Y : Vec F S512x4096 .f32) (n j k : ℕ) (w : FVec F S128x512 .f32)
    (hw : ∀ (x : S128x512.Idx) (y : S512x4096.Idx), (y 0).val = 128 * k + (x 0).val → (y 1).val = 512 * j + (x 1).val → w x = Yv y)
    (hg : GoodY Yv Y n j) (hk : ∀ y : S512x4096.Idx, (y 0).val < 128 * k → 512 * j ≤ (y 1).val → (y 1).val < 512 * (j + 1) → Y y = Yv y) :
    GoodY Yv (VecWindow.put (s := S512x4096) Y ![128 * k, 512 * j] S128x512.size w) n j
      ∧ ∀ y : S512x4096.Idx, (y 0).val < 128 * (k + 1) → 512 * j ≤ (y 1).val → (y 1).val < 512 * (j + 1)
        → VecWindow.put (s := S512x4096) Y ![128 * k, 512 * j] S128x512.size w y = Yv y := by
  constructor
  · intro y h0 h1
    unfold VecWindow.put
    rw [dif_neg]
    · exact hg y h0 h1
    · intro h
      have := (h 1).1
      simp at this
      omega
  · intro y h0 h1 h2
    unfold VecWindow.put
    split
    · rename_i h
      have e0 := h 0
      have e1 := h 1
      simp at e0 e1
      refine hw _ y ?_ ?_
      · show _ = 128 * k + ((y 0).val - 128 * k); omega
      · show _ = 512 * j + ((y 1).val - 512 * j); omega
    · rename_i h
      refine hk y ?_ h1 h2
      by_contra hc
      refine h fun a => ?_
      fin_cases a <;> simp <;> omega

/-- One trip of the accumulating loop: row block `k` of column block `j` is computed and put into the scratch. -/
theorem step1 (c : Dev nD) (i : grid0.Coords) (arg2 : Memref sig .tc .smem S3 .i32) (harg2 : arg2.IsWhole) (arg3 : Memref sig .tc .vmem S1x512x14336 .fp8e4m3) (harg3 : arg3.IsWhole) (arg4 : Memref sig .tc .vmem S14336x512 .fp8e4m3) (harg4 : arg4.IsWhole) (arg5 : Memref sig .tc .vmem S1x512x512 .bf16) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x512x4096 .f32) (harg11 : arg11.IsWhole) (arg12 : Memref sig .tc .vmem S1x1x4096 .f32) (harg12 : arg12.IsWhole) (arg13 : Memref sig .tc .vmem S1x1x4096 .i8) (harg13 : arg13.IsWhole) (arg14 : Memref sig .tc .vmem S1x1x128 .f32) (harg14 : arg14.IsWhole) (arg15 : Memref sig .tc .vmem S512x4096 .f32) (harg15 : arg15.IsWhole) (arg16 : Memref sig .tc .vmem S512x128 .f32) (harg16 : arg16.IsWhole) (v1 : Elt F .i32) (k0_hw1 : k0_chk1 i v1) (hv : BitVec.toNat v1 ≤ 512)
    (H : Vec F S1x512x14336 .fp8e4m3) (W : Vec F S14336x512 .fp8e4m3) (X : Vec F S1x512x512 .bf16) (R : Vec F S512x128 .f32) (WS B : Vec F S1x512 .f32)
    (Yv : Vec F S512x4096 .f32)
    (hY : ∀ (k : ℕ) (hk : k < 4) (x : S128x512.Idx) (y : S512x4096.Idx), (y 0).val = 128 * k + (x 0).val → (y 1).val = 512 * (i 1).val + (x 1).val →
      yBlk H W X R WS B k hk x = Yv y)
    (k : Fin (k0_t1_loop v1).trips) (acc : BitVec 32) (E : Set ℕ) :
    Inv1 c arg3 arg4 arg5 arg7 arg8 arg15 arg16 H W X R WS B Yv (nc v1) (i 1).val k.val acc
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1 k0_hw1 k acc)
          (Inv1 c arg3 arg4 arg5 arg7 arg8 arg15 arg16 H W X R WS B Yv (nc v1) (i 1).val (k.val + 1)) := by
  unfold Inv1 k0_t1_body
  iintro ⟨H3, H4, H5, H7, H8, H16, %Y, H15, %hg⟩
  sl_exec
  sl_step
  have hk4 : k.val < 4 := by have := t1_lt hv k; have := nc_le hv; omega
  ihave H15 := (pointsTo_rep_of_read (c : Thread nD τ) arg15 _ fullShare
    (VecWindow.put (s := S512x4096) Y ![128 * k.val, 512 * (i 1).val] S128x512.size (yBlk H W X R WS B k.val hk4)) (by
      rw [View.readAt_rep_unit _ _ _ (off2_eq hv k) (by intro a; fin_cases a <;> simp <;> omega), View.readAt_rep_full,
        View.readAt_rep_unit _ _ _ (off3_eq hv k) (by intro a; fin_cases a <;> simp <;> omega),
        View.readAt_rep_unit _ _ _ (off4_eq hv k) (by intro a; fin_cases a <;> simp <;> omega),
        View.readAt_rep_full, View.readAt_rep_full]
      exact View.read_writes_rep_unit _ _ _ _ (off5_eq hv i k))) $$ H15
  isplitl [H3]; · iexact H3
  isplitl [H4]; · iexact H4
  isplitl [H5]; · iexact H5
  isplitl [H7]; · iexact H7
  isplitl [H8]; · iexact H8
  isplitl [H16]; · iexact H16
  iexists _
  isplitl [H15]; · iexact H15
  ipureintro
  exact good_put Yv Y _ _ _ _ (hY k.val hk4) hg.1 hg.2

end Cert.KernelProof
-- ==== Proof.Loop3.lean ====
/- The two loops of the kernel's last grid step of a batch: the normalising loop, which takes the sum's rows 32 at a time,
    stores them normalised and masked and adds them up, and the loop that fills the rows past the length's blocks with zeros. -/
module

public import proofs.«01_k».proof.Proof.Loop1
public import Idealize.ShloMosaic.Lib.Exec
public import Idealize.ShloMosaic.Lib.Tactic
public import Idealize.ShloMosaic.Lib.Pipeline.Kit
public import Idealize.ShloMosaic.Lib.Pipeline.TableIdle
public import Idealize.ShloMosaic.Lib.LoopEntry
public import Idealize.ShloMosaic.Lib.LoopRemainder

@[expose] public section

set_option maxRecDepth 16384

noncomputable section

namespace Cert.KernelProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The result window holds `zmv` on the rows below `r`. -/
def GoodZ (Zv Z : Vec F S1x512x4096 .f32) (r : ℕ) : Prop := ∀ y : S1x512x4096.Idx, (y 1).val < r → Z y = Zv y

/-- A block of 32 rows put at row `32 k` extends the rows that hold the result. -/
theorem goodZ_put (Y : Vec F S512x4096 .f32) (G BE : Vec F S1x4096 .f32) (v : BitVec 32) (Z : Vec F S1x512x4096 .f32) (k : ℕ)
    (hz : GoodZ (zmv Y G BE v) Z (32 * k)) :
    GoodZ (zmv Y G BE v) (VecWindow.put (s := S1x512x4096) Z ![0, 32 * k, 0] S1x32x4096.size (zBlk Y G BE v k)) (32 * (k + 1)) := by
  intro y hy
  have h0 : (y 0).val < 1 := (y 0).isLt
  have h2 : (y 2).val < 4096 := (y 2).isLt
  unfold VecWindow.put
  by_cases hk : 32 * k ≤ (y 1).val
  · rw [dif_pos (by intro a; fin_cases a <;> simp <;> omega)]
    have e : (y 1).val / 32 = k := by omega
    subst e
    unfold zmv
    rfl
  · rw [dif_neg]
    · exact hz y (by omega)
    · intro h
      have := (h 1).1
      simp at this
      omega

/-- The normalising loop before trip `k`. -/
def Inv3 (c : Dev nD) (arg9 arg10 : Memref sig .tc .vmem S1x4096 .f32) (arg11 : Memref sig .tc .vmem S1x512x4096 .f32)
    (arg15 : Memref sig .tc .vmem S512x4096 .f32) (Yv Y : Vec F S512x4096 .f32) (G BE : Vec F S1x4096 .f32) (v : BitVec 32) (k : ℕ)
    (acc : FVec F S1x4096 .f32) : sProp 𝕄 :=
  iprop(at_ c arg9 G ∗ at_ c arg10 BE ∗ at_ c arg15 Y ∗ ∃ Z, at_ c arg11 Z ∗ ⌜GoodZ (zmv Yv G BE v) Z (32 * k) ∧ acc = accv Yv G BE v k⌝)

/-- The zero-filling loop before trip `k`. -/
def Inv5 (c : Dev nD) (arg11 : Memref sig .tc .vmem S1x512x4096 .f32) (Yv : Vec F S512x4096 .f32) (G BE : Vec F S1x4096 .f32)
    (v : BitVec 32) (k : ℕ) (_ : BitVec 32) : sProp 𝕄 :=
  iprop(∃ Z, at_ c arg11 Z ∗ ⌜GoodZ (zmv Yv G BE v) Z (32 * (4 * nc v + k))⌝)

/-- A window of 32 rows of the scratch is the window of the whole sum, on the rows the length's blocks reach. -/
theorem rows_good (Yv Y : Vec F S512x4096 .f32) (n k : ℕ) (hk : 32 * k + 32 ≤ 512) (hn : 32 * (k + 1) ≤ 128 * n) (hg : GoodY Yv Y n 8) :
    rows2 Y (32 * k) 32 4096 hk (by omega) = rows2 Yv (32 * k) 32 4096 hk (by omega) := by
  funext x
  have h0 : (x 0).val < 32 := (x 0).isLt
  have h1 : (x 1).val < 4096 := (x 1).isLt
  refine hg _ ?_ ?_
  · show 32 * k + 1 * (x 0).val < _; omega
  · show 0 + 1 * (x 1).val < _; omega

/-- One trip of the normalising loop. -/
theorem step3 (c : Dev nD) (i : grid0.Coords) (arg2 : Memref sig .tc .smem S3 .i32) (harg2 : arg2.IsWhole) (arg3 : Memref sig .tc .vmem S1x512x14336 .fp8e4m3) (harg3 : arg3.IsWhole) (arg4 : Memref sig .tc .vmem S14336x512 .fp8e4m3) (harg4 : arg4.IsWhole) (arg5 : Memref sig .tc .vmem S1x512x512 .bf16) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x512x4096 .f32) (harg11 : arg11.IsWhole) (arg12 : Memref sig .tc .vmem S1x1x4096 .f32) (harg12 : arg12.IsWhole) (arg13 : Memref sig .tc .vmem S1x1x4096 .i8) (harg13 : arg13.IsWhole) (arg14 : Memref sig .tc .vmem S1x1x128 .f32) (harg14 : arg14.IsWhole) (arg15 : Memref sig .tc .vmem S512x4096 .f32) (harg15 : arg15.IsWhole) (arg16 : Memref sig .tc .vmem S512x128 .f32) (harg16 : arg16.IsWhole) (v1 : Elt F .i32) (k0_hw1 : k0_chk1 i v1) (v3 : BitVec 32) (k0_h2 : k0_cond2 i = 1#1)
    (hv : BitVec.toNat v1 ≤ 512) (Yv Y : Vec F S512x4096 .f32) (G BE : Vec F S1x4096 .f32) (hg : GoodY Yv Y (nc v1) 8)
    (k : Fin (k0_t3_loop v1).trips) (acc : FVec F S1x4096 .f32) (E : Set ℕ) :
    Inv3 c arg9 arg10 arg11 arg15 Yv Y G BE v1 k.val acc
      ⊢ wp frame (wpE (defs₀ (F := F)) Variants.none (c : Thread nD τ) none) E (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1 k0_hw1 v3 k0_h2 k acc)
          (Inv3 c arg9 arg10 arg11 arg15 Yv Y G BE v1 (k.val + 1)) := by
  have hk4 : k.val < 4 * nc v1 := t3_lt hv k
  have hn := nc_le hv
  have hc : k.val < (k0_t3_loop v1).trips ∧ k.val < 16 := ⟨k.isLt, by omega⟩
  unfold Inv3 k0_t3_body
  iintro ⟨H9, H10, H15, %Z, H11, %hz⟩
  sl_exec
  sl_step
  have er := View.readAt_rep_unit (Val := Elt F) arg15.view Y (k0_off10_inb i v1 k0_hw1 k k0_h2) (off10_eq hv k) (by intro a; fin_cases a <;> simp <;> omega)
  have er' := er.trans (rows_good Yv Y (nc v1) k.val (by omega) (by omega) hg)
  ihave H11 := (pointsTo_rep_of_read (c : Thread nD τ) arg11 _ fullShare
    (VecWindow.put (s := S1x512x4096) Z ![0, 32 * k.val, 0] S1x32x4096.size (zBlk Yv G BE v1 k.val)) (by
      rw [er', View.readAt_rep_full, View.readAt_rep_full]
      unfold zBlk
      rw [dif_pos hc]
      exact View.read_writes_rep_unit _ _ _ _ (off11_eq hv k))) $$ H11
  isplitl [H9]; · iexact H9
  isplitl [H10]; · iexact H10
  isplitl [H15]; · iexact H15
  iexists _
  isplitl [H11]; · iexact H11
  ipureintro
  refine ⟨goodZ_put Yv G BE v1 Z k.val hz.1, ?_⟩
  rw [er', View.readAt_rep_full, View.readAt_rep_full, hz.2]
  show _ = accv Yv G BE v1 (k.val + 1)
  rw [accv, dif_pos hc]

/-- One trip of the zero-filling loop. -/
theorem step5 (c : Dev nD) (i : grid0.Coords) (arg2 : Memref sig .tc .smem S3 .i32) (harg2 : arg2.IsWhole) (arg3 : Memref sig .tc .vmem S1x512x14336 .fp8e4m3) (harg3 : arg3.IsWhole) (arg4 : Memref sig .tc .vmem S14336x512 .fp8e4m3) (harg4 : arg4.IsWhole) (arg5 : Memref sig .tc .vmem S1x512x512 .bf16) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x512x4096 .f32) (harg11 : arg11.IsWhole) (arg12 : Memref sig .tc .vmem S1x1x4096 .f32) (harg12 : arg12.IsWhole) (arg13 : Memref sig .tc .vmem S1x1x4096 .i8) (harg13 : arg13.IsWhole) (arg14 : Memref sig .tc .vmem S1x1x128 .f32) (harg14 : arg14.IsWhole) (arg15 : Memref sig .tc .vmem S512x4096 .f32) (harg15 : arg15.IsWhole) (arg16 : Memref sig .tc .vmem S512x128 .f32) (harg16 : arg16.IsWhole) (v1 : Elt F .i32) (k0_hw1 : k0_chk1 i v1) (v3 : BitVec 32) (k0_h2 : k0_cond2 i = 1#1)
    (hv : BitVec.toNat v1 ≤ 512) (Yv : Vec F S512x4096 .f32) (G BE : Vec F S1x4096 .f32)
    (k : Fin (k0_t5_loop v1).trips) (acc : BitVec 32) (E : Set ℕ) :
    Inv5 c arg11 Yv G BE v1 k.val acc
      ⊢ wp frame (wpE (defs₀ (F := F)) Variants.none (c : Thread nD τ) none) E (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1 k0_hw1 v3 k0_h2 k acc)
          (Inv5 c arg11 Yv G BE v1 (k.val + 1)) := by
  have ez : zBlk Yv G BE v1 (4 * nc v1 + k.val) = k0_pay17 (F := F) := by
    unfold zBlk
    rw [dif_neg]
    rw [t3_trips hv]
    omega
  unfold Inv5 k0_t5_body
  iintro ⟨%Z, H11, %hz⟩
  sl_exec
  sl_step
  ihave H11 := (pointsTo_rep_of_read (c : Thread nD τ) arg11 _ fullShare
    (VecWindow.put (s := S1x512x4096) Z ![0, 32 * (4 * nc v1 + k.val), 0] S1x32x4096.size (zBlk Yv G BE v1 (4 * nc v1 + k.val))) (by
      rw [ez]
      exact View.read_writes_rep_unit _ _ _ _ (off14_eq hv k))) $$ H11
  iexists _
  isplitl [H11]; · iexact H11
  ipureintro
  exact goodZ_put Yv G BE v1 Z (4 * nc v1 + k.val) hz

end Cert.KernelProof
-- ==== Proof.Body.lean ====
/- The kernel's body at one grid step, over any memrefs: from the length word, the scales laid along the rows and the scratch
    holding the sum on the column blocks before this one, it leaves the sum on one more column block; the last step of a batch
    also leaves the batch's four results. -/
module

public import proofs.«01_k».proof.Proof.Loop3
public import Idealize.ShloMosaic.Lib.Exec
public import Idealize.ShloMosaic.Lib.Tactic
public import Idealize.ShloMosaic.Lib.Pipeline.Kit
public import Idealize.ShloMosaic.Lib.Pipeline.TableIdle
public import Idealize.ShloMosaic.Lib.LoopEntry
public import Idealize.ShloMosaic.Lib.LoopRemainder

@[expose] public section

set_option maxRecDepth 16384

noncomputable section

namespace Cert.KernelProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the first part of the last step leaves: the result window, the mean, and the values the rest of the step stores. -/
def part1Post (c : Dev nD) (arg9 arg10 : Memref sig .tc .vmem S1x4096 .f32) (arg11 : Memref sig .tc .vmem S1x512x4096 .f32)
    (arg12 : Memref sig .tc .vmem S1x1x4096 .f32) (arg15 : Memref sig .tc .vmem S512x4096 .f32) (v1 : BitVec 32) (Yv Y : Vec F S512x4096 .f32) (G BE : Vec F S1x4096 .f32)
    (r : Σ' (v47 : FVec F S1x4096 .f32) (v52 : IVec S1x1 1) (v54 : FVec F S1x1 .f32), FVec F S1x1 .f32) : sProp 𝕄 :=
  iprop(⌜r = ⟨k0_pay21 v1 (accEnd Yv G BE v1), k0_pay23 v1 (accEnd Yv G BE v1), k0_pay24 v1 (accEnd Yv G BE v1), k0_pay25 (F := F)⟩⌝
    ∗ at_ c arg9 G ∗ at_ c arg10 BE ∗ at_ c arg15 Y ∗ at_ c arg11 (zmv Yv G BE v1) ∗ at_ c arg12 (meanv Yv G BE v1))

/-- The first part of the last step: the two loops over the result window, and the mean. -/
theorem part1_spec (c : Dev nD) (i : grid0.Coords) (arg2 : Memref sig .tc .smem S3 .i32) (harg2 : arg2.IsWhole) (arg3 : Memref sig .tc .vmem S1x512x14336 .fp8e4m3) (harg3 : arg3.IsWhole) (arg4 : Memref sig .tc .vmem S14336x512 .fp8e4m3) (harg4 : arg4.IsWhole) (arg5 : Memref sig .tc .vmem S1x512x512 .bf16) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x512x4096 .f32) (harg11 : arg11.IsWhole) (arg12 : Memref sig .tc .vmem S1x1x4096 .f32) (harg12 : arg12.IsWhole) (arg13 : Memref sig .tc .vmem S1x1x4096 .i8) (harg13 : arg13.IsWhole) (arg14 : Memref sig .tc .vmem S1x1x128 .f32) (harg14 : arg14.IsWhole) (arg15 : Memref sig .tc .vmem S512x4096 .f32) (harg15 : arg15.IsWhole) (arg16 : Memref sig .tc .vmem S512x128 .f32) (harg16 : arg16.IsWhole) (v1 : Elt F .i32) (k0_hw1 : k0_chk1 i v1) (v3 : BitVec 32) (k0_h2 : k0_cond2 i = 1#1)
    (hv : BitVec.toNat v1 ≤ 512) (Yv Y : Vec F S512x4096 .f32) (G BE : Vec F S1x4096 .f32) (hg : GoodY Yv Y (nc v1) 8)
    (Z : Vec F S1x512x4096 .f32) (M : Vec F S1x1x4096 .f32) (E : Set ℕ) :
    iprop(at_ c arg9 G ∗ at_ c arg10 BE ∗ at_ c arg15 Y ∗ at_ c arg11 Z ∗ at_ c arg12 M)
      ⊢ wp frame (wpE (defs₀ (F := F)) Variants.none (c : Thread nD τ) none) E (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1 k0_hw1 v3 k0_h2)
          (part1Post c arg9 arg10 arg11 arg12 arg15 v1 Yv Y G BE) := by
  iintro ⟨H9, H10, H15, H11, H12⟩
  rw [k0_part1_eq_skeleton]
  unfold k0_part1_skel
  sl_for (Inv3 c arg9 arg10 arg11 arg15 Yv Y G BE v1) $$ [H9 H10 H15 H11]
  · intro k acc
    exact step3 c i arg2 harg2 arg3 harg3 arg4 harg4 arg5 harg5 arg6 harg6 arg7 harg7 arg8 harg8 arg9 harg9 arg10 harg10 arg11 harg11 arg12 harg12 arg13 harg13 arg14 harg14 arg15 harg15 arg16 harg16 v1 k0_hw1 v3 k0_h2 hv Yv Y G BE hg k acc E
  · unfold Inv3
    isplitl [H9]; · iexact H9
    isplitl [H10]; · iexact H10
    isplitl [H15]; · iexact H15
    iexists _
    isplitl [H11]; · iexact H11
    ipureintro
    exact ⟨fun y hy => absurd hy (Nat.not_lt_zero _), rfl⟩
  iintro %acc HI
  rw [show Scf.trips (k0_t3_loop v1).lb (k0_t3_loop v1).ub (k0_t3_loop v1).st = 4 * nc v1 from t3_trips hv]
  unfold Inv3
  icases HI with ⟨H9, H10, H15, %Z1, H11, %hz1⟩
  sl_exec
  sl_for (Inv5 c arg11 Yv G BE v1) $$ [H11]
  · intro k acc
    exact step5 c i arg2 harg2 arg3 harg3 arg4 harg4 arg5 harg5 arg6 harg6 arg7 harg7 arg8 harg8 arg9 harg9 arg10 harg10 arg11 harg11 arg12 harg12 arg13 harg13 arg14 harg14 arg15 harg15 arg16 harg16 v1 k0_hw1 v3 k0_h2 hv Yv G BE k acc E
  · unfold Inv5
    iexists _
    isplitl [H11]; · iexact H11
    ipureintro
    have := hz1.1
    rwa [show 32 * (4 * nc v1) = 32 * (4 * nc v1 + 0) from rfl] at this
  iintro %acc5 HI
  rw [show Scf.trips (k0_t5_loop v1).lb (k0_t5_loop v1).ub (k0_t5_loop v1).st = 16 - 4 * nc v1 from t5_trips hv]
  unfold Inv5
  icases HI with ⟨%Z2, H11, %hz2⟩
  sl_exec
  sl_step
  have eZ : Z2 = zmv Yv G BE v1 := funext fun y => hz2 y (by
    have h : (y 1).val < 512 := (y 1).isLt
    have := nc_le hv
    omega)
  have eA : acc = accEnd Yv G BE v1 := hz1.2
  subst eZ
  subst eA
  ihave H12 := (pointsTo_rep_of_read (c : Thread nD τ) arg12 _ fullShare (meanv Yv G BE v1) (by
    exact View.read_writes_full _ _ _ _ [])) $$ H12
  unfold part1Post
  isplitr
  · ipureintro; rfl
  isplitl [H9]; · iexact H9
  isplitl [H10]; · iexact H10
  isplitl [H15]; · iexact H15
  isplitl [H11]; · iexact H11
  iexact H12

/-- The length word the body reads is the batch's. -/
theorem off1_val (i : grid0.Coords) : (k0_off1 i) 0 = (i 0).val := by
  have key : ∀ j : Fin 3, (Scalar.indexCast (BitVec.ofNat 32 j.val)).toNat = j.val := by decide
  exact key (i 0)

/-- The first-step condition is false after a batch's first step. -/
theorem later_step (i : grid0.Coords) (hn : (i 1).val ≠ 0) :
    ¬ Scalar.cmpi .ne (Scalar.extui (Scalar.cmpi .eq (BitVec.ofNat 32 (i 1).val) 0#32) : BitVec 32) 0#32 = 1#1 := by
  have key : ∀ j : Fin 8, j.val ≠ 0 → ¬ Scalar.cmpi .ne (Scalar.extui (Scalar.cmpi .eq (BitVec.ofNat 32 j.val) 0#32) : BitVec 32) 0#32 = 1#1 := by decide
  exact key (i 1) hn

/-- The last-step condition holds only at step 7. -/
theorem last_step (i : grid0.Coords) (h : k0_cond2 i = 1#1) : (i 1).val = 7 := by
  have key : ∀ j : Fin 8, Scalar.cmpi .ne (Scalar.extui (Scalar.cmpi .eq (BitVec.ofNat 32 j.val) 7#32) : BitVec 32) 0#32 = 1#1 → j.val = 7 := by decide
  exact key (i 1) h

/-- The last-step condition holds at step 7. -/
theorem cond2_last (i : grid0.Coords) (h : (i 1).val = 7) : k0_cond2 i = 1#1 := by
  have key : ∀ j : Fin 8, j.val = 7 → Scalar.cmpi .ne (Scalar.extui (Scalar.cmpi .eq (BitVec.ofNat 32 j.val) 7#32) : BitVec 32) 0#32 = 1#1 := by decide
  exact key (i 1) h

/-- After the accumulating loop the scratch holds the sum on one more column block. -/
theorem good_next (Yv Y : Vec F S512x4096 .f32) (n j : ℕ) (hg : GoodY Yv Y n j)
    (hk : ∀ y : S512x4096.Idx, (y 0).val < 128 * n → 512 * j ≤ (y 1).val → (y 1).val < 512 * (j + 1) → Y y = Yv y) : GoodY Yv Y n (j + 1) := by
  intro y h0 h1
  by_cases h : (y 1).val < 512 * j
  · exact hg y h0 h
  · exact hk y h0 (by omega) h1

/-- The four stores of the first step lay the scales along the rows. -/
theorem rs_puts (R : Vec F S512x128 .f32) (HS : Vec F S1x1x512 .f32) (h0 h1 h2 h3) :
    VecWindow.put (s := S512x128) (VecWindow.put (s := S512x128) (VecWindow.put (s := S512x128) (VecWindow.put (s := S512x128) R
      ![0, 0] S128x128.size (k0_pay1 (VecWindow.window (s := S1x1x512) HS ![0, 0, 0] S1x1x128.size h0)))
      ![128, 0] S128x128.size (k0_pay2 (VecWindow.window (s := S1x1x512) HS ![0, 0, 128] S1x1x128.size h1)))
      ![256, 0] S128x128.size (k0_pay3 (VecWindow.window (s := S1x1x512) HS ![0, 0, 256] S1x1x128.size h2)))
      ![384, 0] S128x128.size (k0_pay4 (VecWindow.window (s := S1x1x512) HS ![0, 0, 384] S1x1x128.size h3)) = RSv HS := by
  funext y
  have hy : (y 0).val < 512 := (y 0).isLt
  have hy1 : (y 1).val < 128 := (y 1).isLt
  have key : ∀ (j : ℕ) (hj : ∀ a, ![0, 0, 128 * j] a + S1x1x128.size a ≤ S1x1x512.size a) (hm : ∀ a, ![128 * j, 0] a ≤ (y a).val ∧ (y a).val < ![128 * j, 0] a + S128x128.size a),
      k0_pay1 (VecWindow.window (s := S1x1x512) HS ![0, 0, 128 * j] S1x1x128.size hj)
        (Rect.unitLocal (s := S512x128) (off := ![128 * j, 0]) (size := S128x128.size) y hm) = RSv HS y := by
    intro j hj hm
    have e : j = (y 0).val / 128 := by
      have := hm 0
      simp at this
      omega
    subst e
    unfold RSv
    rfl
  unfold VecWindow.put
  split
  · rename_i hm; exact key 3 h3 hm
  split
  · rename_i hm; exact key 2 h2 hm
  split
  · rename_i hm; exact key 1 h1 hm
  split
  · rename_i hm; exact key 0 h0 hm
  rename_i n3 n2 n1 n0
  exfalso
  have hc : (y 0).val < 128 ∨ (128 ≤ (y 0).val ∧ (y 0).val < 256) ∨ (256 ≤ (y 0).val ∧ (y 0).val < 384) ∨ 384 ≤ (y 0).val := by omega
  rcases hc with hc | hc | hc | hc
  · exact n0 fun a => by fin_cases a <;> simp <;> omega
  · exact n1 fun a => by fin_cases a <;> simp <;> omega
  · exact n2 fun a => by fin_cases a <;> simp <;> omega
  · exact n3 fun a => by fin_cases a <;> simp <;> omega

/-- A step that is not the last of its batch: one more column block of the sum, and the scales laid along the rows. -/
theorem body_mid (c : Dev nD) (i : grid0.Coords) (arg2 : Memref sig .tc .smem S3 .i32) (harg2 : arg2.IsWhole) (arg3 : Memref sig .tc .vmem S1x512x14336 .fp8e4m3) (harg3 : arg3.IsWhole) (arg4 : Memref sig .tc .vmem S14336x512 .fp8e4m3) (harg4 : arg4.IsWhole) (arg5 : Memref sig .tc .vmem S1x512x512 .bf16) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x512x4096 .f32) (harg11 : arg11.IsWhole) (arg12 : Memref sig .tc .vmem S1x1x4096 .f32) (harg12 : arg12.IsWhole) (arg13 : Memref sig .tc .vmem S1x1x4096 .i8) (harg13 : arg13.IsWhole) (arg14 : Memref sig .tc .vmem S1x1x128 .f32) (harg14 : arg14.IsWhole) (arg15 : Memref sig .tc .vmem S512x4096 .f32) (harg15 : arg15.IsWhole) (arg16 : Memref sig .tc .vmem S512x128 .f32) (harg16 : arg16.IsWhole) (q : PosShare TreeShare)
    (hlast : k0_cond2 i ≠ 1#1)
    (T : Vec F S3 .i32) (v1 : BitVec 32) (hT : ∀ y : S3.Idx, (y 0).val = (i 0).val → T y = v1) (hv : v1.toNat ≤ 512)
    (H : Vec F S1x512x14336 .fp8e4m3) (W : Vec F S14336x512 .fp8e4m3) (X : Vec F S1x512x512 .bf16) (HS : Vec F S1x1x512 .f32) (R : Vec F S512x128 .f32) (WS B : Vec F S1x512 .f32)
    (Yv Y : Vec F S512x4096 .f32) (hg : GoodY Yv Y (nc v1) (i 1).val)
    (hR : (i 1).val ≠ 0 → R = RSv HS)
    (hY : ∀ (k : ℕ) (hk : k < 4) (x : S128x512.Idx) (y : S512x4096.Idx), (y 0).val = 128 * k + (x 0).val → (y 1).val = 512 * (i 1).val + (x 1).val →
      yBlk H W X (RSv HS) WS B k hk x = Yv y) (E : Set ℕ) :
    iprop((arg2.view.loc (c : Thread nD τ) ↦[arg2.view.set]{q} arg2.view.rep T) ∗ at_ c arg3 H ∗ at_ c arg4 W ∗ at_ c arg5 X ∗ at_ c arg6 HS ∗ at_ c arg7 WS ∗ at_ c arg8 B ∗ at_ c arg15 Y ∗ at_ c arg16 R)
      ⊢ wp frame (wpE (defs₀ (F := F)) Variants.none (c : Thread nD τ) none) E (cc0__body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => iprop((arg2.view.loc (c : Thread nD τ) ↦[arg2.view.set]{q} arg2.view.rep T) ∗ at_ c arg3 H ∗ at_ c arg4 W ∗ at_ c arg5 X ∗ at_ c arg6 HS ∗ at_ c arg7 WS ∗ at_ c arg8 B
            ∗ at_ c arg16 (RSv HS) ∗ ∃ Y', at_ c arg15 Y' ∗ ⌜GoodY Yv Y' (nc v1) ((i 1).val + 1)⌝)) := by
  rw [cc0__body_eq_skeleton]
  unfold cc0__body_skel
  iintro ⟨H2, H3, H4, H5, H6, H7, H8, H15, H16⟩
  sl_exec
  have er : body_mid.sl.r i arg2 T = v1 := by
    unfold body_mid.sl.r
    rw [View.readAt_rep_unit _ _ _ (rfl : k0_off1 i = k0_off1 i) (k0_off1_inb i)]
    refine hT _ ?_
    show (k0_off1 i) 0 + 1 * 0 = _
    rw [off1_val, Nat.mul_zero, Nat.add_zero]
  rw [er, wp_assume_of _ _ _ _ (chk_of_le hv i)]
  by_cases hn : (i 1).val = 0
  · have h1 : Scalar.cmpi .ne (Scalar.extui (Scalar.cmpi .eq (BitVec.ofNat 32 (i 1).val) 0#32) : BitVec 32) 0#32 = 1#1 := by
      rw [hn]; decide
    sl_exec
    ihave H16 := (pointsTo_rep_of_read (c : Thread nD τ) arg16 _ fullShare (RSv HS) (by
      unfold body_mid.sl.H16_4
      rw [View.read_writes_cons_put _ _ _ _ _ rfl, View.read_writes_cons_put _ _ _ _ _ rfl, View.read_writes_cons_put _ _ _ _ _ rfl,
        View.read_writes_cons_put _ _ _ _ _ rfl, View.readAt_rep_unit _ _ _ rfl inb_S1x1x512_S1x1x128_0_0_0, View.readAt_rep_unit _ _ _ rfl inb_S1x1x512_S1x1x128_0_0_128,
        View.readAt_rep_unit _ _ _ rfl inb_S1x1x512_S1x1x128_0_0_256, View.readAt_rep_unit _ _ _ rfl inb_S1x1x512_S1x1x128_0_0_384]
      exact rs_puts _ HS _ _ _ _)) $$ H16
    sl_for (Inv1 c arg3 arg4 arg5 arg7 arg8 arg15 arg16 H W X (RSv HS) WS B Yv (nc v1) (i 1).val) $$ [H3 H4 H5 H7 H8 H15 H16]
    · intro k acc
      exact step1 c i arg2 harg2 arg3 harg3 arg4 harg4 arg5 harg5 arg6 harg6 arg7 harg7 arg8 harg8 arg9 harg9 arg10 harg10 arg11 harg11 arg12 harg12 arg13 harg13 arg14 harg14 arg15 harg15 arg16 harg16 v1 (chk_of_le hv i) hv H W X (RSv HS) WS B Yv hY k acc E
    · unfold Inv1
      isplitl [H3]; · iexact H3
      isplitl [H4]; · iexact H4
      isplitl [H5]; · iexact H5
      isplitl [H7]; · iexact H7
      isplitl [H8]; · iexact H8
      isplitl [H16]; · iexact H16
      iexists _
      isplitl [H15]; · iexact H15
      ipureintro
      exact ⟨hg, fun y hy => absurd hy (Nat.not_lt_zero _)⟩
    iintro %acc HI
    rw [show Scf.trips (k0_t1_loop v1).lb (k0_t1_loop v1).ub (k0_t1_loop v1).st = nc v1 from t1_trips hv]
    unfold Inv1
    icases HI with ⟨H3, H4, H5, H7, H8, H16, %Y1, H15, %hy1⟩
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H16]; · iexact H16
    iexists _
    isplitl [H15]; · iexact H15
    ipureintro
    exact good_next Yv Y1 _ _ hy1.1 hy1.2
  · have h1 : ¬ Scalar.cmpi .ne (Scalar.extui (Scalar.cmpi .eq (BitVec.ofNat 32 (i 1).val) 0#32) : BitVec 32) 0#32 = 1#1 := later_step i hn
    have eR := hR hn
    subst eR
    sl_exec
    sl_for (Inv1 c arg3 arg4 arg5 arg7 arg8 arg15 arg16 H W X (RSv HS) WS B Yv (nc v1) (i 1).val) $$ [H3 H4 H5 H7 H8 H15 H16]
    · intro k acc
      exact step1 c i arg2 harg2 arg3 harg3 arg4 harg4 arg5 harg5 arg6 harg6 arg7 harg7 arg8 harg8 arg9 harg9 arg10 harg10 arg11 harg11 arg12 harg12 arg13 harg13 arg14 harg14 arg15 harg15 arg16 harg16 v1 (chk_of_le hv i) hv H W X (RSv HS) WS B Yv hY k acc E
    · unfold Inv1
      isplitl [H3]; · iexact H3
      isplitl [H4]; · iexact H4
      isplitl [H5]; · iexact H5
      isplitl [H7]; · iexact H7
      isplitl [H8]; · iexact H8
      isplitl [H16]; · iexact H16
      iexists _
      isplitl [H15]; · iexact H15
      ipureintro
      exact ⟨hg, fun y hy => absurd hy (Nat.not_lt_zero _)⟩
    iintro %acc HI
    rw [show Scf.trips (k0_t1_loop v1).lb (k0_t1_loop v1).ub (k0_t1_loop v1).st = nc v1 from t1_trips hv]
    unfold Inv1
    icases HI with ⟨H3, H4, H5, H7, H8, H16, %Y1, H15, %hy1⟩
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H16]; · iexact H16
    iexists _
    isplitl [H15]; · iexact H15
    ipureintro
    exact good_next Yv Y1 _ _ hy1.1 hy1.2

/-- The last step of a batch: the last column block of the sum, and the batch's four results. -/
theorem body_last (c : Dev nD) (i : grid0.Coords) (arg2 : Memref sig .tc .smem S3 .i32) (harg2 : arg2.IsWhole) (arg3 : Memref sig .tc .vmem S1x512x14336 .fp8e4m3) (harg3 : arg3.IsWhole) (arg4 : Memref sig .tc .vmem S14336x512 .fp8e4m3) (harg4 : arg4.IsWhole) (arg5 : Memref sig .tc .vmem S1x512x512 .bf16) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x512x4096 .f32) (harg11 : arg11.IsWhole) (arg12 : Memref sig .tc .vmem S1x1x4096 .f32) (harg12 : arg12.IsWhole) (arg13 : Memref sig .tc .vmem S1x1x4096 .i8) (harg13 : arg13.IsWhole) (arg14 : Memref sig .tc .vmem S1x1x128 .f32) (harg14 : arg14.IsWhole) (arg15 : Memref sig .tc .vmem S512x4096 .f32) (harg15 : arg15.IsWhole) (arg16 : Memref sig .tc .vmem S512x128 .f32) (harg16 : arg16.IsWhole) (q : PosShare TreeShare)
    (hlast : k0_cond2 i = 1#1)
    (T : Vec F S3 .i32) (v1 : BitVec 32) (hT : ∀ y : S3.Idx, (y 0).val = (i 0).val → T y = v1) (hv : v1.toNat ≤ 512)
    (H : Vec F S1x512x14336 .fp8e4m3) (W : Vec F S14336x512 .fp8e4m3) (X : Vec F S1x512x512 .bf16) (HS : Vec F S1x1x512 .f32) (WS B : Vec F S1x512 .f32)
    (G BE : Vec F S1x4096 .f32) (Z : Vec F S1x512x4096 .f32) (M : Vec F S1x1x4096 .f32) (C : Vec F S1x1x4096 .i8) (A : Vec F S1x1x128 .f32)
    (Yv Y : Vec F S512x4096 .f32) (hg : GoodY Yv Y (nc v1) (i 1).val)
    (hY : ∀ (k : ℕ) (hk : k < 4) (x : S128x512.Idx) (y : S512x4096.Idx), (y 0).val = 128 * k + (x 0).val → (y 1).val = 512 * (i 1).val + (x 1).val →
      yBlk H W X (RSv HS) WS B k hk x = Yv y) (E : Set ℕ) :
    iprop((arg2.view.loc (c : Thread nD τ) ↦[arg2.view.set]{q} arg2.view.rep T) ∗ at_ c arg3 H ∗ at_ c arg4 W ∗ at_ c arg5 X ∗ at_ c arg6 HS ∗ at_ c arg7 WS ∗ at_ c arg8 B
        ∗ at_ c arg9 G ∗ at_ c arg10 BE ∗ at_ c arg11 Z ∗ at_ c arg12 M ∗ at_ c arg13 C ∗ at_ c arg14 A ∗ at_ c arg15 Y ∗ at_ c arg16 (RSv HS))
      ⊢ wp frame (wpE (defs₀ (F := F)) Variants.none (c : Thread nD τ) none) E (cc0__body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => iprop((arg2.view.loc (c : Thread nD τ) ↦[arg2.view.set]{q} arg2.view.rep T) ∗ at_ c arg3 H ∗ at_ c arg4 W ∗ at_ c arg5 X ∗ at_ c arg6 HS ∗ at_ c arg7 WS ∗ at_ c arg8 B
            ∗ at_ c arg9 G ∗ at_ c arg10 BE ∗ at_ c arg11 (zmv Yv G BE v1) ∗ at_ c arg12 (meanv Yv G BE v1) ∗ at_ c arg13 (codesv Yv G BE v1) ∗ at_ c arg14 (scalesv Yv G BE v1)
            ∗ at_ c arg16 (RSv HS) ∗ ∃ Y', at_ c arg15 Y' ∗ ⌜GoodY Yv Y' (nc v1) ((i 1).val + 1)⌝)) := by
  have hn7 := last_step i hlast
  have hn : (i 1).val ≠ 0 := by omega
  have h1 : ¬ Scalar.cmpi .ne (Scalar.extui (Scalar.cmpi .eq (BitVec.ofNat 32 (i 1).val) 0#32) : BitVec 32) 0#32 = 1#1 := later_step i hn
  rw [cc0__body_eq_skeleton]
  unfold cc0__body_skel
  iintro ⟨H2, H3, H4, H5, H6, H7, H8, H9, H10, H11, H12, H13, H14, H15, H16⟩
  sl_exec
  have er : body_last.sl.r i arg2 T = v1 := by
    unfold body_last.sl.r
    rw [View.readAt_rep_unit _ _ _ (rfl : k0_off1 i = k0_off1 i) (k0_off1_inb i)]
    refine hT _ ?_
    show (k0_off1 i) 0 + 1 * 0 = _
    rw [off1_val, Nat.mul_zero, Nat.add_zero]
  rw [er, wp_assume_of _ _ _ _ (chk_of_le hv i)]
  sl_exec
  sl_for (Inv1 c arg3 arg4 arg5 arg7 arg8 arg15 arg16 H W X (RSv HS) WS B Yv (nc v1) (i 1).val) $$ [H3 H4 H5 H7 H8 H15 H16]
  · intro k acc
    exact step1 c i arg2 harg2 arg3 harg3 arg4 harg4 arg5 harg5 arg6 harg6 arg7 harg7 arg8 harg8 arg9 harg9 arg10 harg10 arg11 harg11 arg12 harg12 arg13 harg13 arg14 harg14 arg15 harg15 arg16 harg16 v1 (chk_of_le hv i) hv H W X (RSv HS) WS B Yv hY k acc E
  · unfold Inv1
    isplitl [H3]; · iexact H3
    isplitl [H4]; · iexact H4
    isplitl [H5]; · iexact H5
    isplitl [H7]; · iexact H7
    isplitl [H8]; · iexact H8
    isplitl [H16]; · iexact H16
    iexists _
    isplitl [H15]; · iexact H15
    ipureintro
    exact ⟨hg, fun y hy => absurd hy (Nat.not_lt_zero _)⟩
  iintro %acc HI
  rw [show Scf.trips (k0_t1_loop v1).lb (k0_t1_loop v1).ub (k0_t1_loop v1).st = nc v1 from t1_trips hv]
  unfold Inv1
  icases HI with ⟨H3, H4, H5, H7, H8, H16, %Y1, H15, %hy1⟩
  sl_exec
  have hg8 : GoodY Yv Y1 (nc v1) 8 := by
    have := good_next Yv Y1 _ _ hy1.1 hy1.2
    rwa [hn7] at this
  iapply (wp_wand_r Idealize.ShloMosaic.frame _ E (Q := part1Post c arg9 arg10 arg11 arg12 arg15 v1 Yv Y1 G BE))
  isplitl [H9 H10 H15 H11 H12]
  · refine exec_prog_eq Variants.none (c : Thread nD τ) none E _ (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v1 (chk_of_le hv i) (body_last.sl.v3 v1) hlast) rfl (BIBase.Entails.trans ?_ (part1_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 v1 (chk_of_le hv i) _ hlast hv Yv Y1 G BE hg8 Z M E))
    iintro ⟨⟨⟨⟨H9, H10⟩, H11⟩, H12⟩, H15⟩
    isplitl [H9]; · iexact H9
    isplitl [H10]; · iexact H10
    isplitl [H15]; · iexact H15
    isplitl [H11]; · iexact H11
    iexact H12
  unfold part1Post
  iintro %r ⟨%hr, H9, H10, H15, H11, H12⟩
  subst hr
  sl_exec
  sl_step
  ihave H13 := (pointsTo_rep_of_read (c : Thread nD τ) arg13 _ fullShare (codesv Yv G BE v1) (by
    exact View.read_writes_full _ _ _ _ [])) $$ H13
  ihave H14 := (pointsTo_rep_of_read (c : Thread nD τ) arg14 _ fullShare (scalesv Yv G BE v1) (by
    exact View.read_writes_full _ _ _ _ [])) $$ H14
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H16]; · iexact H16
  iexists _
  isplitl [H15]; · iexact H15
  ipureintro
  exact good_next Yv Y1 _ _ hy1.1 hy1.2

end Cert.KernelProof
-- ==== Proof.Run.lean ====
/- The kernel's grid run: what the two scratch buffers hold between grid steps, what each step leaves, and the run of the whole
    program from it. At step `n` of batch `b` the scratch holds the sum on the column blocks before `n` (on the rows that the
    batch's length reaches) and the batch's row scales; the last step of a batch leaves the batch's four result blocks. -/
module

public import proofs.«01_k».proof.Proof.Host
public import proofs.«01_k».proof.Proof.Body
public import Idealize.ShloMosaic.Lib.Memref

@[expose] public section

set_option maxRecDepth 16384

noncomputable section

namespace Cert.KernelProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

/-- Batch `b`'s length word, its sum over all columns, and its row scales laid along the rows. -/
def lenw (c : Dev nD) (b : ℕ) (hb : b < 3) : BitVec 32 := (V m c main_arg8 : Vec F S3 .i32) (fun a => ⟨b, by fin_cases a; exact hb⟩)
def sumB (c : Dev nD) (b : ℕ) (hb : b < 3) : Vec F S512x4096 .f32 :=
  sumv (V m c main_arg1) (V m c main_arg3) (V m c main_arg0) (V m c main_v0) (V m c main_v1) (V m c main_v2) b hb
def rsB (c : Dev nD) (b : ℕ) (hb : b < 3) : Vec F S512x128 .f32 := RSv (batch3 (V m c main_v0 : Vec F S3x1x512 .f32) b hb)

/-- Batch `b`'s four result blocks. -/
def zmB (c : Dev nD) (b : ℕ) (hb : b < 3) : Vec F S1x512x4096 .f32 := zmv (sumB m c b hb) (V m c main_v3) (V m c main_v4) (lenw m c b hb)
def meanB (c : Dev nD) (b : ℕ) (hb : b < 3) : Vec F S1x1x4096 .f32 := meanv (sumB m c b hb) (V m c main_v3) (V m c main_v4) (lenw m c b hb)
def codesB (c : Dev nD) (b : ℕ) (hb : b < 3) : Vec F S1x1x4096 .i8 := codesv (sumB m c b hb) (V m c main_v3) (V m c main_v4) (lenw m c b hb)
def scalesB (c : Dev nD) (b : ℕ) (hb : b < 3) : Vec F S1x1x128 .f32 := scalesv (sumB m c b hb) (V m c main_v3) (V m c main_v4) (lenw m c b hb)

/-- What is known of the two scratch buffers before grid point `k`. -/
def ScratchOK (c : Dev nD) (k : ℕ) (Y : Vec F S512x4096 .f32) (R : Vec F S512x128 .f32) : Prop :=
  ∀ (b n : ℕ) (hb : b < 3), n < 8 → k = 8 * b + n → n ≠ 0 → R = rsB m c b hb ∧ GoodY (sumB m c b hb) Y (nc (lenw m c b hb)) n

/-- The state between grid points: the scratch, the generator register, and the half of the length table that the body reads. -/
def Inv (c : Dev nD) (k : ℕ) : sProp 𝕄 :=
  iprop(∃ Y R, owns (c : Thread nD τ) (Memref.whole cc0_scratch0) fullShare Y ∗ owns (c : Thread nD τ) (Memref.whole cc0_scratch1) fullShare R
    ∗ ⌜ScratchOK m c k Y R⌝ ∗ (∃ r, prngReg c r) ∗ owns (c : Thread nD τ) (Memref.whole main_arg8) fullShare.right (V m c main_arg8))

/-- The proof data: the arrays as the grid finds them; after a point, each input's buffer at its block and each output's at its
    batch's result block. -/
def dats (_ : Fin 1) (c : Dev nD) : Dat τ (Elt F) Unit ℕ (UR sig nD τ) ℕ (cfg0 (adm m 0)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => zmB m c (bat t) (bat_lt t)
    | ⟨9, _⟩ => meanB m c (bat t) (bat_lt t)
    | ⟨10, _⟩ => codesB m c (bat t) (bat_lt t)
    | ⟨11, _⟩ => scalesB m c (bat t) (bat_lt t)
  Φ t := Inv m c t.val
  q _ := fullShare
  owed _ := 0

/-- The proof data's arrays, and what each window's buffer holds before and after a point. -/
theorem A_eq (c : Dev nD) (w : Fin (cfg0 (adm m 0)).W) : (dats m 0 c).A w = V m c (Pipeline.arrRef spec0 w) := by
  dsimp only [dats]
theorem after_0 (c : Dev nD) (t : Fin (cfg0 (adm m 0)).N) : (dats m 0 c).after 0 t = iblk m c 0 t := by dsimp only [dats]; rfl
theorem after_1 (c : Dev nD) (t : Fin (cfg0 (adm m 0)).N) : (dats m 0 c).after 1 t = iblk m c 1 t := by dsimp only [dats]; rfl
theorem after_2 (c : Dev nD) (t : Fin (cfg0 (adm m 0)).N) : (dats m 0 c).after 2 t = iblk m c 2 t := by dsimp only [dats]; rfl
theorem after_3 (c : Dev nD) (t : Fin (cfg0 (adm m 0)).N) : (dats m 0 c).after 3 t = iblk m c 3 t := by dsimp only [dats]; rfl
theorem after_4 (c : Dev nD) (t : Fin (cfg0 (adm m 0)).N) : (dats m 0 c).after 4 t = iblk m c 4 t := by dsimp only [dats]; rfl
theorem after_5 (c : Dev nD) (t : Fin (cfg0 (adm m 0)).N) : (dats m 0 c).after 5 t = iblk m c 5 t := by dsimp only [dats]; rfl
theorem after_6 (c : Dev nD) (t : Fin (cfg0 (adm m 0)).N) : (dats m 0 c).after 6 t = iblk m c 6 t := by dsimp only [dats]; rfl
theorem after_7 (c : Dev nD) (t : Fin (cfg0 (adm m 0)).N) : (dats m 0 c).after 7 t = iblk m c 7 t := by dsimp only [dats]; rfl
theorem after_8 (c : Dev nD) (t : Fin (cfg0 (adm m 0)).N) : (dats m 0 c).after 8 t = zmB m c (bat t) (bat_lt t) := by dsimp only [dats]; rfl
theorem after_9 (c : Dev nD) (t : Fin (cfg0 (adm m 0)).N) : (dats m 0 c).after 9 t = meanB m c (bat t) (bat_lt t) := by dsimp only [dats]; rfl
theorem after_10 (c : Dev nD) (t : Fin (cfg0 (adm m 0)).N) : (dats m 0 c).after 10 t = codesB m c (bat t) (bat_lt t) := by dsimp only [dats]; rfl
theorem after_11 (c : Dev nD) (t : Fin (cfg0 (adm m 0)).N) : (dats m 0 c).after 11 t = scalesB m c (bat t) (bat_lt t) := by dsimp only [dats]; rfl
theorem before_0 (c : Dev nD) (t : Fin (cfg0 (adm m 0)).N) (d) : (dats m 0 c).before 0 t d = iblk m c 0 t :=
  before_0_of m (dats m 0 c) (A_eq m c 0) (after_0 m c) t d
theorem before_1 (c : Dev nD) (t : Fin (cfg0 (adm m 0)).N) (d) : (dats m 0 c).before 1 t d = iblk m c 1 t :=
  before_1_of m (dats m 0 c) (A_eq m c 1) (after_1 m c) t d
theorem before_2 (c : Dev nD) (t : Fin (cfg0 (adm m 0)).N) (d) : (dats m 0 c).before 2 t d = iblk m c 2 t :=
  before_2_of m (dats m 0 c) (A_eq m c 2) (after_2 m c) t d
theorem before_3 (c : Dev nD) (t : Fin (cfg0 (adm m 0)).N) (d) : (dats m 0 c).before 3 t d = iblk m c 3 t :=
  before_3_of m (dats m 0 c) (A_eq m c 3) (after_3 m c) t d
theorem before_4 (c : Dev nD) (t : Fin (cfg0 (adm m 0)).N) (d) : (dats m 0 c).before 4 t d = iblk m c 4 t :=
  before_4_of m (dats m 0 c) (A_eq m c 4) (after_4 m c) t d
theorem before_5 (c : Dev nD) (t : Fin (cfg0 (adm m 0)).N) (d) : (dats m 0 c).before 5 t d = iblk m c 5 t :=
  before_5_of m (dats m 0 c) (A_eq m c 5) (after_5 m c) t d
theorem before_6 (c : Dev nD) (t : Fin (cfg0 (adm m 0)).N) (d) : (dats m 0 c).before 6 t d = iblk m c 6 t :=
  before_6_of m (dats m 0 c) (A_eq m c 6) (after_6 m c) t d
theorem before_7 (c : Dev nD) (t : Fin (cfg0 (adm m 0)).N) (d) : (dats m 0 c).before 7 t d = iblk m c 7 t :=
  before_7_of m (dats m 0 c) (A_eq m c 7) (after_7 m c) t d

/-- Point `t` is step `col t` of batch `bat t`. -/
theorem pt_eq : ∀ t : Fin grid0.N, t.val = 8 * bat t + col t := by decide +kernel

/-- Window `w`'s staging memref at point `t`. -/
abbrev stg (w : Fin 12) (t : Fin (cfg0 (adm m 0)).N) := ((cfg0 (adm m 0)).win w).stage ((cfg0 (adm m 0)).slots t w)

/-- What the obligation asks of window `w`'s buffer after point `t`: its value, except that a buffer the point leaves alone and
    does not write back stays as found. -/
def left (c : Dev nD) (w : Fin 12) (t : Fin (cfg0 (adm m 0)).N) : sProp 𝕄 :=
  match (cfg0 (adm m 0)).idle w ((cfg0 (adm m 0)).grid.coords t) with
  | true =>
    match ((cfg0 (adm m 0)).win w).flush t with
    | false => iprop(∃ d, owns (c : Thread nD τ) (stg m w t) fullShare ((dats m 0 c).before w t d))
    | true => owns (c : Thread nD τ) (stg m w t) fullShare ((dats m 0 c).after w t)
  | false => owns (c : Thread nD τ) (stg m w t) fullShare ((dats m 0 c).after w t)

/-- A batch's last step stores the outputs; every other leaves them alone, and none of those writes a block back. -/
theorem idle_out (w : Fin 12) (hw : 8 ≤ w.val) (t : Fin (cfg0 (adm m 0)).N) :
    (cfg0 (adm m 0)).idle w ((cfg0 (adm m 0)).grid.coords t) = decide (k0_cond2 (grid0.coords t) ≠ 1#1) := by
  have h : ∀ (i : grid0.Coords), ∀ w : Fin 12, 8 ≤ w.val → idle0 w i = decide (k0_cond2 i ≠ 1#1) := fun i w hw => by
    fin_cases w <;> first | (exact absurd hw (by decide)) | (show (!(k0_cond2 i == 1#1)) = _; by_cases h : k0_cond2 i = 1#1 <;> simp [h])
  exact h (grid0.coords t) w hw
theorem flush_8 (t : Fin (cfg0 (adm m 0)).N) : ((cfg0 (adm m 0)).win 8).flush t = decide (col t = 7) := by
  have h : ∀ t : Fin grid0.N, Pipeline.Window.flushOf grid0 true cc0_transform_8 t = decide (col t = 7) := by decide +kernel
  exact (Pipeline.Window.flush_eq_flushOf _ t).trans (h t)
theorem left_8_last (c : Dev nD) (t : Fin (cfg0 (adm m 0)).N) (h : k0_cond2 (grid0.coords t) = 1#1) :
    left m c 8 t = owns (c : Thread nD τ) (stg m 8 t) fullShare ((dats m 0 c).after 8 t) := by
  unfold left; rw [idle_out m 8 (by decide) t, decide_eq_false (by simpa using h)]
theorem left_8_mid (c : Dev nD) (t : Fin (cfg0 (adm m 0)).N) (h : k0_cond2 (grid0.coords t) ≠ 1#1) :
    left m c 8 t = iprop(∃ d, owns (c : Thread nD τ) (stg m 8 t) fullShare ((dats m 0 c).before 8 t d)) := by
  unfold left; rw [idle_out m 8 (by decide) t, decide_eq_true h, flush_8, decide_eq_false (fun h7 => h (cond2_last _ h7))]
  rfl
theorem flush_9 (t : Fin (cfg0 (adm m 0)).N) : ((cfg0 (adm m 0)).win 9).flush t = decide (col t = 7) := by
  have h : ∀ t : Fin grid0.N, Pipeline.Window.flushOf grid0 true cc0_transform_9 t = decide (col t = 7) := by decide +kernel
  exact (Pipeline.Window.flush_eq_flushOf _ t).trans (h t)
theorem left_9_last (c : Dev nD) (t : Fin (cfg0 (adm m 0)).N) (h : k0_cond2 (grid0.coords t) = 1#1) :
    left m c 9 t = owns (c : Thread nD τ) (stg m 9 t) fullShare ((dats m 0 c).after 9 t) := by
  unfold left; rw [idle_out m 9 (by decide) t, decide_eq_false (by simpa using h)]
theorem left_9_mid (c : Dev nD) (t : Fin (cfg0 (adm m 0)).N) (h : k0_cond2 (grid0.coords t) ≠ 1#1) :
    left m c 9 t = iprop(∃ d, owns (c : Thread nD τ) (stg m 9 t) fullShare ((dats m 0 c).before 9 t d)) := by
  unfold left; rw [idle_out m 9 (by decide) t, decide_eq_true h, flush_9, decide_eq_false (fun h7 => h (cond2_last _ h7))]
  rfl
theorem flush_10 (t : Fin (cfg0 (adm m 0)).N) : ((cfg0 (adm m 0)).win 10).flush t = decide (col t = 7) := by
  have h : ∀ t : Fin grid0.N, Pipeline.Window.flushOf grid0 true cc0_transform_10 t = decide (col t = 7) := by decide +kernel
  exact (Pipeline.Window.flush_eq_flushOf _ t).trans (h t)
theorem left_10_last (c : Dev nD) (t : Fin (cfg0 (adm m 0)).N) (h : k0_cond2 (grid0.coords t) = 1#1) :
    left m c 10 t = owns (c : Thread nD τ) (stg m 10 t) fullShare ((dats m 0 c).after 10 t) := by
  unfold left; rw [idle_out m 10 (by decide) t, decide_eq_false (by simpa using h)]
theorem left_10_mid (c : Dev nD) (t : Fin (cfg0 (adm m 0)).N) (h : k0_cond2 (grid0.coords t) ≠ 1#1) :
    left m c 10 t = iprop(∃ d, owns (c : Thread nD τ) (stg m 10 t) fullShare ((dats m 0 c).before 10 t d)) := by
  unfold left; rw [idle_out m 10 (by decide) t, decide_eq_true h, flush_10, decide_eq_false (fun h7 => h (cond2_last _ h7))]
  rfl
theorem flush_11 (t : Fin (cfg0 (adm m 0)).N) : ((cfg0 (adm m 0)).win 11).flush t = decide (col t = 7) := by
  have h : ∀ t : Fin grid0.N, Pipeline.Window.flushOf grid0 true cc0_transform_11 t = decide (col t = 7) := by decide +kernel
  exact (Pipeline.Window.flush_eq_flushOf _ t).trans (h t)
theorem left_11_last (c : Dev nD) (t : Fin (cfg0 (adm m 0)).N) (h : k0_cond2 (grid0.coords t) = 1#1) :
    left m c 11 t = owns (c : Thread nD τ) (stg m 11 t) fullShare ((dats m 0 c).after 11 t) := by
  unfold left; rw [idle_out m 11 (by decide) t, decide_eq_false (by simpa using h)]
theorem left_11_mid (c : Dev nD) (t : Fin (cfg0 (adm m 0)).N) (h : k0_cond2 (grid0.coords t) ≠ 1#1) :
    left m c 11 t = iprop(∃ d, owns (c : Thread nD τ) (stg m 11 t) fullShare ((dats m 0 c).before 11 t d)) := by
  unfold left; rw [idle_out m 11 (by decide) t, decide_eq_true h, flush_11, decide_eq_false (fun h7 => h (cond2_last _ h7))]
  rfl

/-- What the body is called with at point `t`, and what it returns. -/
def bodyPre (c : Dev nD) (t : Fin (cfg0 (adm m 0)).N) : sProp 𝕄 :=
  iprop(Inv m c t.val ∗ (dats m 0 c).owesAt () t.castSucc
    ∗ (∃ d, owns (c : Thread nD τ) (stg m 0 t) fullShare ((dats m 0 c).before 0 t d))
    ∗ (∃ d, owns (c : Thread nD τ) (stg m 1 t) fullShare ((dats m 0 c).before 1 t d))
    ∗ (∃ d, owns (c : Thread nD τ) (stg m 2 t) fullShare ((dats m 0 c).before 2 t d))
    ∗ (∃ d, owns (c : Thread nD τ) (stg m 3 t) fullShare ((dats m 0 c).before 3 t d))
    ∗ (∃ d, owns (c : Thread nD τ) (stg m 4 t) fullShare ((dats m 0 c).before 4 t d))
    ∗ (∃ d, owns (c : Thread nD τ) (stg m 5 t) fullShare ((dats m 0 c).before 5 t d))
    ∗ (∃ d, owns (c : Thread nD τ) (stg m 6 t) fullShare ((dats m 0 c).before 6 t d))
    ∗ (∃ d, owns (c : Thread nD τ) (stg m 7 t) fullShare ((dats m 0 c).before 7 t d))
    ∗ (∃ d, owns (c : Thread nD τ) (stg m 8 t) fullShare ((dats m 0 c).before 8 t d))
    ∗ (∃ d, owns (c : Thread nD τ) (stg m 9 t) fullShare ((dats m 0 c).before 9 t d))
    ∗ (∃ d, owns (c : Thread nD τ) (stg m 10 t) fullShare ((dats m 0 c).before 10 t d))
    ∗ (∃ d, owns (c : Thread nD τ) (stg m 11 t) fullShare ((dats m 0 c).before 11 t d)))
def bodyPost (c : Dev nD) (t : Fin (cfg0 (adm m 0)).N) : sProp 𝕄 :=
  iprop(Inv m c (t.val + 1) ∗ (dats m 0 c).owesAt () t.succ
    ∗ owns (c : Thread nD τ) (stg m 0 t) fullShare ((dats m 0 c).after 0 t)
    ∗ owns (c : Thread nD τ) (stg m 1 t) fullShare ((dats m 0 c).after 1 t)
    ∗ owns (c : Thread nD τ) (stg m 2 t) fullShare ((dats m 0 c).after 2 t)
    ∗ owns (c : Thread nD τ) (stg m 3 t) fullShare ((dats m 0 c).after 3 t)
    ∗ owns (c : Thread nD τ) (stg m 4 t) fullShare ((dats m 0 c).after 4 t)
    ∗ owns (c : Thread nD τ) (stg m 5 t) fullShare ((dats m 0 c).after 5 t)
    ∗ owns (c : Thread nD τ) (stg m 6 t) fullShare ((dats m 0 c).after 6 t)
    ∗ owns (c : Thread nD τ) (stg m 7 t) fullShare ((dats m 0 c).after 7 t)
    ∗ left m c 8 t
    ∗ left m c 9 t
    ∗ left m c 10 t
    ∗ left m c 11 t)

/-- The body as the pipeline calls it at point `t`. -/
abbrev bodyAt (t : Fin (cfg0 (adm m 0)).N) : Prog (TpuEff nD τ sig (Elt F) Λ₀ .tc) PUnit :=
  cc0__body (F := F) (grid0.coords t) (Memref.whole main_arg8) (Memref.isWhole_whole _) (stg m 0 t) (stage_whole0 0 _) (stg m 1 t) (stage_whole0 1 _) (stg m 2 t) (stage_whole0 2 _) (stg m 3 t) (stage_whole0 3 _) (stg m 4 t) (stage_whole0 4 _) (stg m 5 t) (stage_whole0 5 _) (stg m 6 t) (stage_whole0 6 _) (stg m 7 t) (stage_whole0 7 _) (stg m 8 t) (stage_whole0 8 _) (stg m 9 t) (stage_whole0 9 _) (stg m 10 t) (stage_whole0 10 _) (stg m 11 t) (stage_whole0 11 _)
    (Memref.whole cc0_scratch0) (Memref.isWhole_whole _) (Memref.whole cc0_scratch1) (Memref.isWhole_whole _)

/-- The body table's row at point `t`'s slots is that. -/
theorem row_eq (t : Fin (cfg0 (adm m 0)).N) :
    defs₀ (F := F) .tc (cfg0 (adm m 0)).body ((cfg0 (adm m 0)).bodyArgs t ((cfg0 (adm m 0)).slots t)) = bodyAt m t := by
  unfold defs₀; rw [Defs.onTc_tc]

/-- The scratch after point `t`, from what the body leaves. -/
theorem scratch_next (c : Dev nD) (t : Fin grid0.N) (Y' : Vec F S512x4096 .f32)
    (hg : GoodY (sumB m c (bat t) (bat_lt t)) Y' (nc (lenw m c (bat t) (bat_lt t))) (col t + 1)) :
    ScratchOK m c (t.val + 1) Y' (rsB m c (bat t) (bat_lt t)) := by
  intro b n hb hn hk h0
  have hp := pt_eq t
  have hc := col_lt t
  have hb' : b = bat t := by omega
  have hn' : n = col t + 1 := by omega
  subst hb' hn'
  exact ⟨rfl, hg⟩

/-- The scratch before point `t`, as the body's triples ask for it. -/
theorem scratch_now (c : Dev nD) (t : Fin grid0.N) (Y : Vec F S512x4096 .f32) (R : Vec F S512x128 .f32) (h : ScratchOK m c t.val Y R) :
    GoodY (sumB m c (bat t) (bat_lt t)) Y (nc (lenw m c (bat t) (bat_lt t))) (col t) ∧ (col t ≠ 0 → R = rsB m c (bat t) (bat_lt t)) := by
  by_cases h0 : col t = 0
  · refine ⟨fun y _ hy => absurd hy (by omega), fun h => absurd h0 h⟩
  · have := h (bat t) (col t) (bat_lt t) (col_lt t) (pt_eq t) h0
    exact ⟨this.2, fun _ => this.1⟩

/-- The length word that the body reads at point `t` is its batch's. -/
theorem len_read (c : Dev nD) (t : Fin grid0.N) (y : S3.Idx) (h : (y 0).val = bat t) :
    (V m c main_arg8 : Vec F S3 .i32) y = lenw m c (bat t) (bat_lt t) := by
  unfold lenw
  refine congrArg (V m c main_arg8 : Vec F S3 .i32) (funext fun a => Fin.ext ?_)
  match a with
  | ⟨0, _⟩ => exact h

/-- What the body's loop computes at point `t` is the sum on the point's column block. -/
theorem sum_read (c : Dev nD) (t : Fin grid0.N) (k : ℕ) (hk : k < 4) (x : S128x512.Idx) (y : S512x4096.Idx)
    (h0 : (y 0).val = 128 * k + (x 0).val) (h1 : (y 1).val = 512 * col t + (x 1).val) :
    yBlk (batch3 (V m c main_arg1 : Vec F S3x512x14336 .fp8e4m3) (bat t) (bat_lt t)) (cols2 (V m c main_arg3 : Vec F S14336x4096 .fp8e4m3) (col t) (col_lt t))
      (cols3 (V m c main_arg0 : Vec F S3x512x4096 .bf16) (bat t) (col t) (bat_lt t) (col_lt t)) (RSv (batch3 (V m c main_v0 : Vec F S3x1x512 .f32) (bat t) (bat_lt t)))
      (cols2 (V m c main_v1 : Vec F S1x4096 .f32) (col t) (col_lt t)) (cols2 (V m c main_v2 : Vec F S1x4096 .f32) (col t) (col_lt t)) k hk x = sumB m c (bat t) (bat_lt t) y :=
  sumv_block _ _ _ _ _ _ (bat t) (bat_lt t) (col t) (col_lt t) k hk x y h0 h1

/-- The body at a point before the batch's last: the scratch gains one column block. -/
theorem sound_mid (hL : ∀ c b hb, (lenw m c b hb).toNat ≤ 512) (c : Dev nD) (t : Fin (cfg0 (adm m 0)).N) (h : k0_cond2 (grid0.coords t) ≠ 1#1) :
    bodyPre m c t ⊢ wp frame (wpE (defs₀ (F := F)) Variants.none c none) Set.univ (bodyAt m t) (fun _ => bodyPost m c t) := by
  unfold bodyPre bodyPost
  rw [left_8_mid m c t h, left_9_mid m c t h, left_10_mid m c t h, left_11_mid m c t h]
  simp only [before_0, before_1, before_2, before_3, before_4, before_5, before_6, before_7]
  rw [show (dats m 0 c).owesAt () t.succ = (dats m 0 c).owesAt () t.castSucc from rfl,
    after_0, after_1, after_2, after_3, after_4, after_5, after_6, after_7, iblk_0, iblk_1, iblk_2, iblk_3, iblk_4, iblk_5]
  unfold Inv
  iintro ⟨⟨%Y, %R, HY, HR, %hok, Hp, HT⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11⟩
  obtain ⟨hg, hR⟩ := scratch_now m c t Y R hok
  ihave HY := (rep_of_owns (c : Thread nD τ) (Memref.whole cc0_scratch0) fullShare _) $$ HY
  ihave HR := (rep_of_owns (c : Thread nD τ) (Memref.whole cc0_scratch1) fullShare _) $$ HR
  ihave HT := (rep_of_owns (c : Thread nD τ) (Memref.whole main_arg8) fullShare.right _) $$ HT
  ihave H0 := (rep_of_owns (c : Thread nD τ) (stg m 0 t) fullShare _) $$ H0
  ihave H1 := (rep_of_owns (c : Thread nD τ) (stg m 1 t) fullShare _) $$ H1
  ihave H2 := (rep_of_owns (c : Thread nD τ) (stg m 2 t) fullShare _) $$ H2
  ihave H3 := (rep_of_owns (c : Thread nD τ) (stg m 3 t) fullShare _) $$ H3
  ihave H4 := (rep_of_owns (c : Thread nD τ) (stg m 4 t) fullShare _) $$ H4
  ihave H5 := (rep_of_owns (c : Thread nD τ) (stg m 5 t) fullShare _) $$ H5
  ihave Hw := (body_mid c (grid0.coords t) (Memref.whole main_arg8) (Memref.isWhole_whole _) (stg m 0 t) (stage_whole0 0 _) (stg m 1 t) (stage_whole0 1 _) (stg m 2 t) (stage_whole0 2 _) (stg m 3 t) (stage_whole0 3 _) (stg m 4 t) (stage_whole0 4 _) (stg m 5 t) (stage_whole0 5 _) (stg m 6 t) (stage_whole0 6 _) (stg m 7 t) (stage_whole0 7 _) (stg m 8 t) (stage_whole0 8 _) (stg m 9 t) (stage_whole0 9 _) (stg m 10 t) (stage_whole0 10 _) (stg m 11 t) (stage_whole0 11 _) (Memref.whole cc0_scratch0) (Memref.isWhole_whole _) (Memref.whole cc0_scratch1) (Memref.isWhole_whole _) fullShare.right h _ _ (fun y hy => len_read m c t y hy) (hL c _ _)
    _ _ _ _ R _ _ _ Y hg hR (sum_read m c t) Set.univ) $$ [HT H0 H1 H2 H3 H4 H5 HY HR]
  · isplitl [HT]; · iexact HT
    isplitl [H0]; · iexact H0
    isplitl [H1]; · iexact H1
    isplitl [H2]; · iexact H2
    isplitl [H3]; · iexact H3
    isplitl [H4]; · iexact H4
    isplitl [H5]; · iexact H5
    isplitl [HY]; · iexact HY
    iexact HR
  iapply (wp_wand_r Idealize.ShloMosaic.frame _ Set.univ)
  isplitl [Hw]; · iexact Hw
  iintro %_ ⟨HT, H0, H1, H2, H3, H4, H5, HR, ⟨%Y', HY, %hg'⟩⟩
  isplitl [HY HR Hp HT]
  · iexists Y', _
    isplitl [HY]; · iapply (owns_of_rep (c : Thread nD τ) (Memref.whole cc0_scratch0) fullShare _); iexact HY
    isplitl [HR]; · iapply (owns_of_rep (c : Thread nD τ) (Memref.whole cc0_scratch1) fullShare _); iexact HR
    isplitr; · ipureintro; exact scratch_next m c t Y' hg'
    isplitl [Hp]; · iexact Hp
    iapply (owns_of_rep (c : Thread nD τ) (Memref.whole main_arg8) fullShare.right _); iexact HT
  isplitl [Ho]; · iexact Ho
  isplitl [H0]; · iapply (owns_of_rep (c : Thread nD τ) (stg m 0 t) fullShare _); iexact H0
  isplitl [H1]; · iapply (owns_of_rep (c : Thread nD τ) (stg m 1 t) fullShare _); iexact H1
  isplitl [H2]; · iapply (owns_of_rep (c : Thread nD τ) (stg m 2 t) fullShare _); iexact H2
  isplitl [H3]; · iapply (owns_of_rep (c : Thread nD τ) (stg m 3 t) fullShare _); iexact H3
  isplitl [H4]; · iapply (owns_of_rep (c : Thread nD τ) (stg m 4 t) fullShare _); iexact H4
  isplitl [H5]; · iapply (owns_of_rep (c : Thread nD τ) (stg m 5 t) fullShare _); iexact H5
  isplitl [H6]; · iexact H6
  isplitl [H7]; · iexact H7
  isplitl [H8]; · iexact H8
  isplitl [H9]; · iexact H9
  isplitl [H10]; · iexact H10
  iexact H11

set_option maxHeartbeats 1600000 in
/-- The body at a batch's last point: it leaves the batch's four result blocks. -/
theorem sound_last (hL : ∀ c b hb, (lenw m c b hb).toNat ≤ 512) (c : Dev nD) (t : Fin (cfg0 (adm m 0)).N) (h : k0_cond2 (grid0.coords t) = 1#1) :
    bodyPre m c t ⊢ wp frame (wpE (defs₀ (F := F)) Variants.none c none) Set.univ (bodyAt m t) (fun _ => bodyPost m c t) := by
  unfold bodyPre bodyPost
  rw [left_8_last m c t h, left_9_last m c t h, left_10_last m c t h, left_11_last m c t h]
  simp only [before_0, before_1, before_2, before_3, before_4, before_5, before_6, before_7]
  rw [show (dats m 0 c).owesAt () t.succ = (dats m 0 c).owesAt () t.castSucc from rfl,
    after_0, after_1, after_2, after_3, after_4, after_5, after_6, after_7, after_8, after_9, after_10, after_11, iblk_0, iblk_1, iblk_2, iblk_3, iblk_4, iblk_5, iblk_6, iblk_7]
  unfold Inv
  iintro ⟨⟨%Y, %R, HY, HR, %hok, Hp, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain ⟨hg, hR⟩ := scratch_now m c t Y R hok
  ihave HY := (rep_of_owns (c : Thread nD τ) (Memref.whole cc0_scratch0) fullShare _) $$ HY
  ihave HR := (rep_of_owns (c : Thread nD τ) (Memref.whole cc0_scratch1) fullShare _) $$ HR
  ihave HT := (rep_of_owns (c : Thread nD τ) (Memref.whole main_arg8) fullShare.right _) $$ HT
  ihave H0 := (rep_of_owns (c : Thread nD τ) (stg m 0 t) fullShare _) $$ H0
  ihave H1 := (rep_of_owns (c : Thread nD τ) (stg m 1 t) fullShare _) $$ H1
  ihave H2 := (rep_of_owns (c : Thread nD τ) (stg m 2 t) fullShare _) $$ H2
  ihave H3 := (rep_of_owns (c : Thread nD τ) (stg m 3 t) fullShare _) $$ H3
  ihave H4 := (rep_of_owns (c : Thread nD τ) (stg m 4 t) fullShare _) $$ H4
  ihave H5 := (rep_of_owns (c : Thread nD τ) (stg m 5 t) fullShare _) $$ H5
  ihave H6 := (rep_of_owns (c : Thread nD τ) (stg m 6 t) fullShare _) $$ H6
  ihave H7 := (rep_of_owns (c : Thread nD τ) (stg m 7 t) fullShare _) $$ H7
  ihave H8 := (rep_of_owns (c : Thread nD τ) (stg m 8 t) fullShare ((dats m 0 c).before 8 t d8)) $$ H8
  ihave H9 := (rep_of_owns (c : Thread nD τ) (stg m 9 t) fullShare ((dats m 0 c).before 9 t d9)) $$ H9
  ihave H10 := (rep_of_owns (c : Thread nD τ) (stg m 10 t) fullShare ((dats m 0 c).before 10 t d10)) $$ H10
  ihave H11 := (rep_of_owns (c : Thread nD τ) (stg m 11 t) fullShare ((dats m 0 c).before 11 t d11)) $$ H11
  obtain rfl := hR (fun h0 => absurd ((last_step _ h).symm.trans h0) (by decide))
  ihave Hw := (body_last c (grid0.coords t) (Memref.whole main_arg8) (Memref.isWhole_whole _) (stg m 0 t) (stage_whole0 0 _) (stg m 1 t) (stage_whole0 1 _) (stg m 2 t) (stage_whole0 2 _) (stg m 3 t) (stage_whole0 3 _) (stg m 4 t) (stage_whole0 4 _) (stg m 5 t) (stage_whole0 5 _) (stg m 6 t) (stage_whole0 6 _) (stg m 7 t) (stage_whole0 7 _) (stg m 8 t) (stage_whole0 8 _) (stg m 9 t) (stage_whole0 9 _) (stg m 10 t) (stage_whole0 10 _) (stg m 11 t) (stage_whole0 11 _) (Memref.whole cc0_scratch0) (Memref.isWhole_whole _) (Memref.whole cc0_scratch1) (Memref.isWhole_whole _) fullShare.right h _ _ (fun y hy => len_read m c t y hy) (hL c _ _)
    _ _ _ _ _ _ _ _ _ _ _ _ _ Y hg (sum_read m c t) Set.univ) $$ [HT H0 H1 H2 H3 H4 H5 H6 H7 H8 H9 H10 H11 HY HR]
  · isplitl [HT]; · iexact HT
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HY]; · iexact HY
    iexact HR
  iapply (wp_wand_r Idealize.ShloMosaic.frame _ Set.univ)
  isplitl [Hw]; · iexact Hw
  iintro %_ ⟨HT, H0, H1, H2, H3, H4, H5, H6, H7, H8, H9, H10, H11, HR, ⟨%Y', HY, %hg'⟩⟩
  isplitl [HY HR Hp HT]
  · iexists Y', _
    isplitl [HY]; · iapply (owns_of_rep (c : Thread nD τ) (Memref.whole cc0_scratch0) fullShare _); iexact HY
    isplitl [HR]; · iapply (owns_of_rep (c : Thread nD τ) (Memref.whole cc0_scratch1) fullShare _); iexact HR
    isplitr; · ipureintro; exact scratch_next m c t Y' hg'
    isplitl [Hp]; · iexact Hp
    iapply (owns_of_rep (c : Thread nD τ) (Memref.whole main_arg8) fullShare.right _); iexact HT
  isplitl [Ho]; · iexact Ho
  isplitl [H0]; · iapply (owns_of_rep (c : Thread nD τ) (stg m 0 t) fullShare _); iexact H0
  isplitl [H1]; · iapply (owns_of_rep (c : Thread nD τ) (stg m 1 t) fullShare _); iexact H1
  isplitl [H2]; · iapply (owns_of_rep (c : Thread nD τ) (stg m 2 t) fullShare _); iexact H2
  isplitl [H3]; · iapply (owns_of_rep (c : Thread nD τ) (stg m 3 t) fullShare _); iexact H3
  isplitl [H4]; · iapply (owns_of_rep (c : Thread nD τ) (stg m 4 t) fullShare _); iexact H4
  isplitl [H5]; · iapply (owns_of_rep (c : Thread nD τ) (stg m 5 t) fullShare _); iexact H5
  isplitl [H6]; · iapply (owns_of_rep (c : Thread nD τ) (stg m 6 t) fullShare _); iexact H6
  isplitl [H7]; · iapply (owns_of_rep (c : Thread nD τ) (stg m 7 t) fullShare _); iexact H7
  isplitl [H8]; · iapply (owns_of_rep (c : Thread nD τ) (stg m 8 t) fullShare _); iexact H8
  isplitl [H9]; · iapply (owns_of_rep (c : Thread nD τ) (stg m 9 t) fullShare _); iexact H9
  isplitl [H10]; · iapply (owns_of_rep (c : Thread nD τ) (stg m 10 t) fullShare _); iexact H10
  iapply (owns_of_rep (c : Thread nD τ) (stg m 11 t) fullShare _); iexact H11

/-- The body's obligation at every point. -/
theorem sound_body (hL : ∀ c b hb, (lenw m c b hb).toNat ≤ 512) (c : Dev nD) (t : Fin (cfg0 (adm m 0)).N) :
    bodyPre m c t ⊢ wp frame (wpE (defs₀ (F := F)) Variants.none c none) Set.univ (bodyAt m t) (fun _ => bodyPost m c t) := by
  by_cases h : k0_cond2 (grid0.coords t) = 1#1
  · exact sound_last m hL c t h
  · exact sound_mid m hL c t h
theorem body_obligation (hL : ∀ c b hb, (lenw m c b hb).toNat ≤ 512) (c : Dev nD) :
    BodyObligation (dats (F := F) m 0 c) (defs₀ (F := F)) Variants.none () Set.univ := fun t => by
  rw [bigSep_W0, bigSep_W0, row_eq]
  exact triple_restated (sound_body m hL c t) rfl .rfl fun _ => .rfl

end Cert.KernelProof
-- ==== Proof.Frame.lean ====
/- The run of the whole program: it ends, its arguments are unchanged, every counter is back at zero, and its arrays hold what the
    proof data say. -/
module

public import proofs.«01_k».proof.Proof.Run

@[expose] public section

set_option maxRecDepth 16384

noncomputable section

namespace Cert.KernelProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Nothing is known of the scratch before the first point. -/
theorem scratch_start (c : Dev nD) (Y : Vec F S512x4096 .f32) (R : Vec F S512x128 .f32) : ScratchOK m c 0 Y R :=
  fun b n _ _ hk h0 => absurd hk (by omega)

/-- The launch hands over what the first point needs. -/
theorem enter (c : Dev nD) :
    iprop(Pipeline.ΦA spec0 c ∗ Pipeline.ΦT pre0 (adm m 0).1 c) ⊢ (Inv m c 0 : sProp 𝕄) := by
  obtain rfl : c = 0 := Subsingleton.elim _ _
  unfold Pipeline.ΦA Pipeline.ΦT Pipeline.prefHeld Inv
  rw [scopedRest0_eq, show (Finset.univ : Finset (Fin pre0.K)) = {0} from by decide, bigSep_singleton]
  simp only [owns_whole]
  iintro ⟨⟨⟨⟨%Y, HY⟩, ⟨%R, HR⟩⟩, Hp⟩, HT⟩
  iexists Y, R
  isplitl [HY]; · iexact HY
  isplitl [HR]; · iexact HR
  isplitr; · ipureintro; exact scratch_start m 0 Y R
  isplitl [Hp]; · iexact Hp
  iexact HT

/-- And takes back the scratch and the register at the end. -/
theorem leave (c : Dev nD) (k : ℕ) : (Inv m c k : sProp 𝕄) ⊢ Pipeline.ΦA spec0 c := by
  unfold Pipeline.ΦA Inv
  rw [scopedRest0_eq]
  simp only [owns_whole]
  iintro ⟨%Y, %R, HY, HR, -, Hp, -⟩
  isplitr [Hp]
  · isplitl [HY]
    · iexists Y; iexact HY
    · iexists R; iexact HR
  · iexact Hp

set_option backward.isDefEq.respectTransparency.types false in
set_option maxHeartbeats 1600000 in
/-- The run, when every length is at most 512: the arrays end as the proof data say, every other buffer as the last lines leave it,
    every counter at zero. -/
theorem run_main_quiescent (hL : ∀ c b hb, (lenw m c b hb).toNat ≤ 512) :
    θ_run defs (onTc (τ := τ) (main (F := F))) ⟨m, fun _ => 0, ρ⟩
      (fun r => (Pipeline.FramePost (Pipeline.pin pcfgs (adm m)) (dats m) 0 (Pipeline.afterTail pcfgs (adm m) (dats m) 0 (V0 m) [hostOps1])) r ∧ r.2.sem = fun _ => 0) :=
  Pipeline.θ_run_frameP_around_track (Q' := _) pcfgs (adm m) (dats m) (0 : Fin 1) launch0 defs₀ Variants.none m ρ main
    (hbody := fun c => (body_obligation m hL c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := fun c k => by obtain rfl : c = 0 := Subsingleton.elim _ _; rfl)
    (hin := enter m) (hout := fun c => leave m c _)

/-- The arguments that no window stages. -/
theorem rest_2 : main_arg2 ∈ Pipeline.restRefs sig spec0 := Pipeline.mem_restRefs_of main_arg2 (by decide) (by decide)
theorem rest_4 : main_arg4 ∈ Pipeline.restRefs sig spec0 := Pipeline.mem_restRefs_of main_arg4 (by decide) (by decide)
theorem rest_5 : main_arg5 ∈ Pipeline.restRefs sig spec0 := Pipeline.mem_restRefs_of main_arg5 (by decide) (by decide)
theorem rest_6 : main_arg6 ∈ Pipeline.restRefs sig spec0 := Pipeline.mem_restRefs_of main_arg6 (by decide) (by decide)
theorem rest_7 : main_arg7 ∈ Pipeline.restRefs sig spec0 := Pipeline.mem_restRefs_of main_arg7 (by decide) (by decide)
theorem rest_8 : main_arg8 ∈ Pipeline.restRefs sig spec0 := Pipeline.mem_restRefs_of main_arg8 (by decide) (by decide)

/-- The frame: the run ends, the arguments are unchanged and every counter is zero. -/
theorem frame (hL : ∀ c b hb, (lenw m c b hb).toNat ≤ 512) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨((h.1 c).1 2).trans (((dats m 0 c).arrAt_in 2 rfl _).trans ((A_eq m c 2).trans (V_keep m c main_arg0 (by decide) (by decide) (by decide) (by decide) (by decide)))),
    ((h.1 c).1 0).trans (((dats m 0 c).arrAt_in 0 rfl _).trans ((A_eq m c 0).trans (V_keep m c main_arg1 (by decide) (by decide) (by decide) (by decide) (by decide)))),
    (((h.1 c).2 main_arg2 rest_2).trans (W_keep m (dats m) c main_arg2 (by decide) (by decide) (by decide) (by decide) (by decide) (by decide) (by decide) (by decide) (by decide) (by decide))),
    ((h.1 c).1 1).trans (((dats m 0 c).arrAt_in 1 rfl _).trans ((A_eq m c 1).trans (V_keep m c main_arg3 (by decide) (by decide) (by decide) (by decide) (by decide)))),
    (((h.1 c).2 main_arg4 rest_4).trans (W_keep m (dats m) c main_arg4 (by decide) (by decide) (by decide) (by decide) (by decide) (by decide) (by decide) (by decide) (by decide) (by decide))),
    (((h.1 c).2 main_arg5 rest_5).trans (W_keep m (dats m) c main_arg5 (by decide) (by decide) (by decide) (by decide) (by decide) (by decide) (by decide) (by decide) (by decide) (by decide))),
    (((h.1 c).2 main_arg6 rest_6).trans (W_keep m (dats m) c main_arg6 (by decide) (by decide) (by decide) (by decide) (by decide) (by decide) (by decide) (by decide) (by decide) (by decide))),
    (((h.1 c).2 main_arg7 rest_7).trans (W_keep m (dats m) c main_arg7 (by decide) (by decide) (by decide) (by decide) (by decide) (by decide) (by decide) (by decide) (by decide) (by decide))),
    (((h.1 c).2 main_arg8 rest_8).trans (W_keep m (dats m) c main_arg8 (by decide) (by decide) (by decide) (by decide) (by decide) (by decide) (by decide) (by decide) (by decide) (by decide)))⟩, h.2⟩) (run_main_quiescent m ρ hL)

end Cert.KernelProof
-- ==== Proof.Transport.lean ====
/- The program as written and its idealization have the same text: no operation is replaced. So what is proved of the idealization's
   text at every reading of the float formats holds of the program's. -/
module

public import proofs.«01_k».proof.Defs
public import proofs.«01_k».proof.Proof.Gen.Kernel
public import proofs.«01_k».proof.Proof.Gen.KernelIdeal

@[expose] public section

set_option maxRecDepth 65536

noncomputable section

namespace Cert.KernelProof

open Idealize.ShloMosaic Idealize.ShloMosaic.TcCoe Idealize.SL.Sem

variable {F : FTy → Type} [FloatOps F]

set_option maxHeartbeats 4000000 in
/-- The two bodies are one text. -/
theorem body_eq : Cert.Kernel.cc0__body (F := F) = Cert.KernelIdeal.cc0__body (F := F) := rfl

set_option maxHeartbeats 4000000 in
/-- So are the two tables of bodies, -/
theorem defs0_eq : Cert.Kernel.defs₀ (F := F) = Cert.KernelIdeal.defs₀ (F := F) := by
  unfold Cert.Kernel.defs₀ Cert.KernelIdeal.defs₀
  rw [body_eq]
  refine congrArg _ ?_
  funext l x
  obtain ⟨l, hl⟩ := l
  match l, hl, x with
  | 0, _, (t, s) => rfl

set_option maxHeartbeats 4000000 in
/-- the two pipelines, -/
theorem pcfgs_eq : Cert.Kernel.pcfgs (F := F) = Cert.KernelIdeal.pcfgs (F := F) := rfl

set_option maxHeartbeats 4000000 in
/-- the two tables with the pipelines in them, -/
theorem defs_eq : Cert.Kernel.defs (F := F) = Cert.KernelIdeal.defs (F := F) := by
  show Pipeline.defs Cert.Kernel.pcfgs Cert.Kernel.defs₀ = Pipeline.defs Cert.KernelIdeal.pcfgs Cert.KernelIdeal.defs₀
  rw [defs0_eq]
  rfl

set_option maxHeartbeats 4000000 in
/-- and the two entry points. -/
theorem main_eq : Cert.Kernel.main (F := F) = Cert.KernelIdeal.main (F := F) := rfl

/-- A run of the idealization's text is a run of the program's. -/
theorem run_of (s) (Q)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  have e : θ_run (Cert.Kernel.defs (F := F)) (onTc (τ := Cert.Kernel.τ) (Cert.Kernel.main (F := F))) =
      θ_run (Cert.KernelIdeal.defs (F := F)) (onTc (τ := Cert.KernelIdeal.τ) (Cert.KernelIdeal.main (F := F))) :=
    congr (congrArg θ_run defs_eq) (congrArg (onTc (τ := Cert.KernelIdeal.τ)) main_eq)
  exact (DFunLike.congr_fun (congrFun e s) Q).mpr h

end Cert.KernelProof
-- ==== Proof.Decode.lean ====
/- What the precondition says: every length word is at most 512. -/
module

public import proofs.«01_k».proof.Pre_lengths_fit
public import Idealize.ShloMosaic.Lib.StableHlo

@[expose] public section

noncomputable section

namespace Cert.KernelProof

open Idealize.ShloMosaic Cert.Pre_lengths_fit

/-- The precondition's one side condition: a word is laid over three. -/
theorem pre_facts : Cert.Pre_lengths_fit.Facts where
  bcast_S_S3 := by decide

variable {F : FTy → Type} [FloatOps F] [Cert.Pre_lengths_fit.Facts]

/-- Where the precondition holds, every length word is at most 512. -/
theorem len_le {a0 : FVec F S3x512x4096 .bf16} {a1 : FVec F S3x512x14336 .fp8e4m3} {a2 : FVec F S3x512 .f32} {a3 : FVec F S14336x4096 .fp8e4m3}
    {a4 a5 a6 a7 : FVec F S4096 .f32} {T : IVec S3 32} (h : fn a0 a1 a2 a3 a4 a5 a6 a7 T = fun _ => 1#1) (y : S3.Idx) : (T y).toNat ≤ 512 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h y
  simp only [fn, andi, cmpi, broadcastInDim, constantI, IntOp.cmpi, andi_ofBool, ofBool_eq_one, Bool.and_eq_true] at e
  obtain ⟨hge, hle⟩ := e
  simp only [BitVec.sle, decide_eq_true_eq, BitVec.toInt, BitVec.toNat_ofNat] at hge hle
  omega

end Cert.KernelProof
-- ==== Proof.Ideal.lean ====
/- The mathematics of the results, entry by entry, over the extended reals: a row's normalisation, the mask of the rows below a
    length, the mean over them, its direction, and the direction's quantisation. -/
module

public import Idealize.ShloMosaic.Lib.Pointwise

@[expose] public section

noncomputable section

namespace Cert.KernelProof

open Idealize.ShloMosaic Idealize.ShloMosaic.TcCoe

/-- One entry of the sum: `x + (h · w) * h_scale * w_scale + b`. -/
def sumS (x : EReal) (h w : Fin 14336 → EReal) (hs ws b : EReal) : EReal := x + (∑ f, h f * w f) * hs * ws + b

/-- A row's mean, and the row about it. -/
def centS (y : Fin 4096 → EReal) (d : Fin 4096) : EReal := y d - Ideal.div (∑ x, y x) (Ideal.ofBits FTy.f32 1166016512#32)

/-- A row's normalisation, with gain `g` and offset `be`. -/
def normS (y : Fin 4096 → EReal) (g be : Fin 4096 → EReal) (d : Fin 4096) : EReal :=
  centS y d * Ideal.rsqrt (Ideal.div (∑ x, centS y x * centS y x) (Ideal.ofBits FTy.f32 1166016512#32) + Ideal.ofBits FTy.f32 925353388#32) * g d + be d

/-- The normalised rows below the length, zero elsewhere. -/
def maskS (y : Fin 512 → Fin 4096 → EReal) (g be : Fin 4096 → EReal) (len : BitVec 32) (s : Fin 512) (d : Fin 4096) : EReal :=
  Scalar.select (IntOp.cmpi CmpIPredicate.slt (BitVec.ofNat 32 s.val) len) (normS (y s) g be d) 0

/-- The mean of the rows below the length. -/
def meanS (y : Fin 512 → Fin 4096 → EReal) (g be : Fin 4096 → EReal) (len : BitVec 32) (d : Fin 4096) : EReal :=
  Ideal.div (∑ s, maskS y g be len s d) (FloatOps.sitofp FTy.f32 len : Ideal .f32)

/-- A vector over its length. -/
def unitS (e : Fin 4096 → EReal) (d : Fin 4096) : EReal :=
  Ideal.div (e d) (max (Ideal.sqrt (∑ x, e x * e x)) (Ideal.ofBits FTy.f32 730643660#32))

/-- The largest magnitude of a vector. -/
def amaxS (e : Fin 4096 → EReal) : EReal :=
  Finset.fold max (Ideal.ofBits FTy.f32 4286578688#32) (fun x => (FloatOps.absf (e x : Ideal .f32) : Ideal .f32)) Finset.univ

/-- A vector's quantisation scale. -/
def scaleS (e : Fin 4096 → EReal) : EReal := if amaxS e = 0 then 1 else Ideal.div (amaxS e) (Ideal.ofBits FTy.f32 1123942400#32)

/-- A vector's quantised entry. -/
def codeS (e : Fin 4096 → EReal) (d : Fin 4096) : BitVec 8 :=
  FloatOps.fptosi 8 (min (Ideal.ofBits FTy.f32 1123942400#32) (max (Ideal.ofBits FTy.f32 3271426048#32)
    (Ideal.liftRound Ideal.roundHalfEven (Ideal.div (e d) (scaleS e)))) : Ideal .f32)

/-! ## The four results, from the nine arguments -/

variable (X : Shape.Idx ⟨3, ![3, 512, 4096]⟩ → EReal) (H : Shape.Idx ⟨3, ![3, 512, 14336]⟩ → EReal) (HS : Shape.Idx ⟨2, ![3, 512]⟩ → EReal)
  (W : Shape.Idx ⟨2, ![14336, 4096]⟩ → EReal) (WS B G BE : Shape.Idx ⟨1, ![4096]⟩ → EReal) (L : Shape.Idx ⟨1, ![3]⟩ → BitVec 32)

/-- Batch `b`'s sum, row `s`, column `d`. -/
def rowsA (b : Fin 3) (s : Fin 512) (d : Fin 4096) : EReal :=
  sumS (X (ix3 b s d)) (fun f => H (ix3 b s f)) (fun f => W (ix2 f d)) (HS (ix2 b s)) (WS (ix1 d)) (B (ix1 d))

/-- The masked normalised rows, -/
def resZ (b : Fin 3) (s : Fin 512) (d : Fin 4096) : EReal :=
  maskS (rowsA X H HS W WS B b) (fun d => G (ix1 d)) (fun d => BE (ix1 d)) (L (ix1 b)) s d
/-- their mean over the rows below the batch's length, -/
def resM (b : Fin 3) (d : Fin 4096) : EReal :=
  meanS (rowsA X H HS W WS B b) (fun d => G (ix1 d)) (fun d => BE (ix1 d)) (L (ix1 b)) d
/-- the mean's quantised direction, -/
def resC (b : Fin 3) (d : Fin 4096) : BitVec 8 := codeS (unitS (resM X H HS W WS B G BE L b)) d
/-- and its scale. -/
def resS (b : Fin 3) : EReal := scaleS (unitS (resM X H HS W WS B G BE L b))

end Cert.KernelProof
-- ==== Proof.KernelValue.lean ====
/- What one batch of the kernel computes is the mathematics of `Ideal.lean`, entry by entry: the sum by its row and column blocks,
    the masked normalised rows by their blocks of 32, and their column sum by adding those blocks up. -/
module

public import proofs.«01_k».proof.Proof.Ideal
public import proofs.«01_k».proof.Proof.Whole

@[expose] public section

set_option maxRecDepth 16384

noncomputable section

namespace Cert.KernelProof

open Cert.KernelIdeal Cert.KernelIdeal.Gen
open Idealize.ShloMosaic Idealize.ShloMosaic.TcCoe

/-- A staged row block's entry, of a rank-3 and of a rank-2 array. -/
theorem rows3_apply {α : Type} {N W : ℕ} (x : Shape.Idx ⟨3, ![1, N, W]⟩ → α) (o n : ℕ) (h : o + n ≤ N) (i : Fin 1) (r : Fin n) (d : Fin W) :
    rows3 x o n h (ix3 i r d) = x (ix3 0 ⟨o + r.val, by omega⟩ d) :=
  congrArg x (funext fun a => Fin.ext (by
    match a with
    | ⟨0, _⟩ => show 0 + 1 * i.val = 0; omega
    | ⟨1, _⟩ => show o + 1 * r.val = o + r.val; omega
    | ⟨2, _⟩ => show 0 + 1 * d.val = d.val; omega))
theorem rows2_apply {α : Type} {N W : ℕ} (x : Shape.Idx ⟨2, ![N, W]⟩ → α) (o n w : ℕ) (h : o + n ≤ N) (hw : w ≤ W) (r : Fin n) (d : Fin w) :
    rows2 x o n w h hw (ix2 r d) = x (ix2 ⟨o + r.val, by omega⟩ ⟨d.val, by omega⟩) :=
  congrArg x (funext fun a => Fin.ext (by
    match a with
    | ⟨0, _⟩ => show o + 1 * r.val = o + r.val; omega
    | ⟨1, _⟩ => show 0 + 1 * d.val = d.val; omega))

/-- An entry of a batch, and of a column block. -/
theorem batch3_apply {α : Type} {N W : ℕ} (x : Shape.Idx ⟨3, ![3, N, W]⟩ → α) (b : ℕ) (hb : b < 3) (i : Fin 1) (r : Fin N) (d : Fin W) :
    batch3 x b hb (ix3 i r d) = x (ix3 ⟨b, hb⟩ r d) :=
  congrArg x (funext fun a => Fin.ext (by
    match a with
    | ⟨0, _⟩ => show b + 1 * i.val = b; omega
    | ⟨1, _⟩ => show 0 + 1 * r.val = r.val; omega
    | ⟨2, _⟩ => show 0 + 1 * d.val = d.val; omega))
theorem cols3_apply {α : Type} {N : ℕ} (x : Shape.Idx ⟨3, ![3, N, 4096]⟩ → α) (b n : ℕ) (hb : b < 3) (hn : n < 8) (i : Fin 1) (r : Fin N) (d : Fin 512) :
    cols3 x b n hb hn (ix3 i r d) = x (ix3 ⟨b, hb⟩ r ⟨512 * n + d.val, by omega⟩) :=
  congrArg x (funext fun a => Fin.ext (by
    match a with
    | ⟨0, _⟩ => show b + 1 * i.val = b; omega
    | ⟨1, _⟩ => show 0 + 1 * r.val = r.val; omega
    | ⟨2, _⟩ => show 512 * n + 1 * d.val = 512 * n + d.val; omega))
theorem cols2_apply {α : Type} {N : ℕ} (x : Shape.Idx ⟨2, ![N, 4096]⟩ → α) (n : ℕ) (hn : n < 8) (r : Fin N) (d : Fin 512) :
    cols2 x n hn (ix2 r d) = x (ix2 r ⟨512 * n + d.val, by omega⟩) :=
  congrArg x (funext fun a => Fin.ext (by
    match a with
    | ⟨0, _⟩ => show 0 + 1 * r.val = r.val; omega
    | ⟨1, _⟩ => show 512 * n + 1 * d.val = 512 * n + d.val; omega))

/-- The body's formula for the sum, at an entry. -/
theorem pay5_apply (v20 : Vec Ideal S1x128x14336 .fp8e4m3) (v22 : Vec Ideal S14336x512 .fp8e4m3) (v25 : Vec Ideal S128x1 .f32)
    (v27 : Vec Ideal S1x128x512 .bf16) (v32 v37 : Vec Ideal S1x512 .f32) (r : Fin 128) (d : Fin 512) :
    k0_pay5 v20 v22 v25 v27 v32 v37 (ix2 r d) = sumS (v27 (ix3 0 r d)) (fun f => v20 (ix3 0 r f)) (fun f => v22 (ix2 f d)) (v25 (ix2 r 0)) (v32 (ix2 0 d)) (v37 (ix2 0 d)) := by
  unfold sumS
  pointwise [k0_pay5]

/-- The row scale's entry laid along row `r`. -/
theorem pay1_apply (v17 : Vec Ideal S1x1x128 .f32) (r d : Fin 128) : k0_pay1 v17 (ix2 r d) = v17 (ix3 0 0 r) := by
  pointwise [k0_pay1]
theorem RSv_apply (HS : Vec Ideal S1x1x512 .f32) (r : Fin 512) (d : Fin 128) : RSv HS (ix2 r d) = HS (ix3 0 0 r) := by
  have hr := r.isLt
  unfold RSv
  have e : (Rect.unitLocal (s := S512x128) (off := ![128 * (r.val / 128), 0]) (size := S128x128.size) (ix2 r d) (by
      have h1 : d.val < 128 := d.isLt
      intro a; fin_cases a <;> simp <;> omega)) = (ix2 (⟨r.val % 128, Nat.mod_lt _ (by omega)⟩ : Fin 128) d : S128x128.Idx) := by
    funext a; refine Fin.ext ?_
    rw [Rect.unitLocal_val]
    match a with
    | ⟨0, _⟩ => show r.val - 128 * (r.val / 128) = r.val % 128; omega
    | ⟨1, _⟩ => show d.val - 0 = d.val; omega
  refine (congrArg _ e).trans ((pay1_apply _ _ _).trans ?_)
  exact congrArg HS (funext fun a => Fin.ext (by
    match a with
    | ⟨0, _⟩ => rfl
    | ⟨1, _⟩ => rfl
    | ⟨2, _⟩ => show 128 * (r.val / 128) + 1 * (r.val % 128) = r.val; omega))

/-- The sum at an entry, from the whole operands. -/
theorem sumv_apply (H : Vec Ideal S3x512x14336 .fp8e4m3) (W : Vec Ideal S14336x4096 .fp8e4m3) (X : Vec Ideal S3x512x4096 .bf16) (HS : Vec Ideal S3x1x512 .f32)
    (WS B : Vec Ideal S1x4096 .f32) (b : ℕ) (hb : b < 3) (s : Fin 512) (d : Fin 4096) :
    sumv H W X HS WS B b hb (ix2 s d) = sumS (X (ix3 ⟨b, hb⟩ s d)) (fun f => H (ix3 ⟨b, hb⟩ s f)) (fun f => W (ix2 f d)) (HS (ix3 ⟨b, hb⟩ 0 s)) (WS (ix2 0 d)) (B (ix2 0 d)) := by
  have hs := s.isLt; have hd := d.isLt
  rw [← sumv_block H W X HS WS B b hb (d.val / 512) (by omega) (s.val / 128) (by omega)
    (ix2 (⟨s.val % 128, Nat.mod_lt _ (by omega)⟩ : Fin 128) (⟨d.val % 512, Nat.mod_lt _ (by omega)⟩ : Fin 512)) (ix2 s d)
    (by show s.val = 128 * (s.val / 128) + s.val % 128; omega) (by show d.val = 512 * (d.val / 512) + d.val % 512; omega)]
  unfold yBlk
  rw [pay5_apply]
  have es : (⟨128 * (s.val / 128) + s.val % 128, by omega⟩ : Fin 512) = s := Fin.ext (by show 128 * (s.val / 128) + s.val % 128 = s.val; omega)
  have ed : (⟨512 * (d.val / 512) + d.val % 512, by omega⟩ : Fin 4096) = d := Fin.ext (by show 512 * (d.val / 512) + d.val % 512 = d.val; omega)
  simp only [rows3_apply, rows2_apply, batch3_apply, cols3_apply, cols2_apply, RSv_apply, es, ed]

/-- The row's number as the body computes it, in a block of 32. -/
theorem rowWord {k r : ℕ} (hk : k < 16) (hr : r < 32) :
    IntOp.addi (Scalar.muli (Scf.iv 0#32 1#32 k) 32#32) (BitVec.ofNat 32 r) = BitVec.ofNat 32 (32 * k + r) := by
  have key : ∀ k : Fin 16, ∀ r : Fin 32, IntOp.addi (Scalar.muli (Scf.iv 0#32 1#32 k.val) 32#32) (BitVec.ofNat 32 r.val) = BitVec.ofNat 32 (32 * k.val + r.val) := by
    decide +kernel
  exact key ⟨k, hk⟩ ⟨r, hr⟩

/-- A row at or past the length is masked out. -/
theorem mask_off {s : ℕ} {v : BitVec 32} (hs : s < 512) (h : v.toNat ≤ s) : IntOp.cmpi CmpIPredicate.slt (BitVec.ofNat 32 s) v = 0#1 := by
  have e1 : (BitVec.ofNat 32 s).toInt = (s : ℤ) := by
    rw [BitVec.toInt_eq_toNat_of_lt (by rw [BitVec.toNat_ofNat]; omega), BitVec.toNat_ofNat, Nat.mod_eq_of_lt (by omega)]
  have e2 : v.toInt = (v.toNat : ℤ) := BitVec.toInt_eq_toNat_of_lt (by omega)
  have hb : BitVec.slt (BitVec.ofNat 32 s) v = false := by
    rw [BitVec.slt, e1, e2]; exact decide_eq_false (by omega)
  show BitVec.ofBool (BitVec.slt (BitVec.ofNat 32 s) v) = 0#1
  rw [hb]; rfl

variable (Y : Vec Ideal S512x4096 .f32) (G BE : Vec Ideal S1x4096 .f32) (v : BitVec 32)

/-- The masked normalised rows of a batch whose sum is `Y`. -/
def maskY (s : Fin 512) (d : Fin 4096) : EReal := maskS (fun s d => Y (ix2 s d)) (fun d => G (ix2 0 d)) (fun d => BE (ix2 0 d)) v s d

set_option maxHeartbeats 4000000 in
/-- The body's masked normalised row block, at an entry. -/
theorem pay11_apply (k : Fin (k0_t3_loop v).trips) (hk : k.val < 16) (r : Fin 32) (d : Fin 4096) :
    k0_pay11 (F := Ideal) v k (rows2 Y (32 * k.val) 32 4096 (by omega) (by omega)) G BE (ix2 r d) = maskY Y G BE v ⟨32 * k.val + r.val, by omega⟩ d := by
  generalize hZ : rows2 Y (32 * k.val) 32 4096 (by omega) (by omega) = Z
  have hz : ∀ x : Fin 4096, Y (ix2 (⟨32 * k.val + r.val, by omega⟩ : Fin 512) x) = Z (ix2 r x) := fun x => by
    rw [← hZ]; exact (rows2_apply Y (32 * k.val) 32 4096 (by omega) (by omega) r x).symm
  unfold maskY maskS normS centS
  simp only [hz]
  rw [← rowWord hk r.isLt]
  pointwise [k0_pay11]

theorem pay12_apply (k : Fin (k0_t3_loop v).trips) (Z : Vec Ideal S32x4096 .f32) (r : Fin 32) (d : Fin 4096) :
    k0_pay12 (F := Ideal) v k Z G BE (ix3 0 r d) = k0_pay11 v k Z G BE (ix2 r d) := by
  pointwise [k0_pay12]
theorem pay17_apply (r : Fin 32) (d : Fin 4096) : k0_pay17 (F := Ideal) (ix3 0 r d) = 0 := by
  pointwise [k0_pay17]
theorem pay13_apply (k : Fin (k0_t3_loop v).trips) (A : FVec Ideal S1x4096 .f32) (Z : Vec Ideal S32x4096 .f32) (d : Fin 4096) :
    k0_pay13 (F := Ideal) v k A Z G BE (ix2 0 d) = A (ix2 0 d) + ∑ r, k0_pay11 v k Z G BE (ix2 r d) := by
  pointwise [k0_pay13]
theorem pay10_apply (d : Fin 4096) : k0_pay10 (F := Ideal) (ix2 0 d) = 0 := by
  pointwise [k0_pay10]

/-- The masked rows past the blocks that the length reaches are zero. -/
theorem maskY_off (s : Fin 512) (d : Fin 4096) (h : v.toNat ≤ s.val) : maskY Y G BE v s d = 0 := by
  unfold maskY maskS
  rw [mask_off s.isLt h]; rfl

/-- The batch's first result, at an entry. -/
theorem zmv_apply (hv : v.toNat ≤ 512) (s : Fin 512) (d : Fin 4096) : zmv Y G BE v (ix3 0 s d) = maskY Y G BE v s d := by
  have hs := s.isLt
  have e : (Rect.unitLocal (s := S1x512x4096) (off := ![0, 32 * (s.val / 32), 0]) (size := S1x32x4096.size) (ix3 0 s d) (by
      have h1 : d.val < 4096 := d.isLt
      intro a; fin_cases a <;> simp <;> omega)) = (ix3 0 (⟨s.val % 32, Nat.mod_lt _ (by omega)⟩ : Fin 32) d : S1x32x4096.Idx) := by
    funext a; refine Fin.ext ?_
    rw [Rect.unitLocal_val]
    match a with
    | ⟨0, _⟩ => rfl
    | ⟨1, _⟩ => show s.val - 32 * (s.val / 32) = s.val % 32; omega
    | ⟨2, _⟩ => show d.val - 0 = d.val; omega
  refine (congrArg (zBlk Y G BE v (s.val / 32)) e).trans ?_
  unfold zBlk
  have ht := t3_trips hv
  by_cases h : s.val / 32 < (k0_t3_loop v).trips ∧ s.val / 32 < 16
  · rw [dif_pos h, pay12_apply, pay11_apply Y G BE v ⟨s.val / 32, h.1⟩ h.2]
    exact congrArg (fun s => maskY Y G BE v s d) (Fin.ext (by show 32 * (s.val / 32) + s.val % 32 = s.val; omega))
  · rw [dif_neg h, pay17_apply]
    refine (maskY_off Y G BE v s d ?_).symm
    rw [ht] at h; unfold nc at h; omega

/-- The masked rows' entries of a column, by row number. -/
def maskN (d : Fin 4096) (s : ℕ) : EReal := if h : s < 512 then maskY Y G BE v ⟨s, h⟩ d else 0

/-- The running column sum after `k` row blocks is the sum of the rows before them. -/
theorem accv_apply (d : Fin 4096) : ∀ k : ℕ, k ≤ (k0_t3_loop v).trips → k ≤ 16 →
    accv Y G BE v k (ix2 0 d) = ∑ s ∈ Finset.range (32 * k), maskN Y G BE v d s
  | 0, _, _ => by show k0_pay10 (F := Ideal) (ix2 0 d) = _; rw [pay10_apply]; rfl
  | k + 1, h1, h2 => by
    have h : k < (k0_t3_loop v).trips ∧ k < 16 := ⟨by omega, by omega⟩
    rw [accv, dif_pos h, pay13_apply, accv_apply d k (by omega) (by omega), show 32 * (k + 1) = 32 * k + 32 by omega, Finset.sum_range_add,
      Finset.sum_range (n := 32)]
    refine congrArg _ (Finset.sum_congr rfl fun r _ => ?_)
    rw [pay11_apply Y G BE v ⟨k, h.1⟩ h.2]
    unfold maskN
    rw [dif_pos (show 32 * k + r.val < 512 by omega)]

/-- The column sum over the blocks the length reaches is the sum over every row. -/
theorem accEnd_apply (hv : v.toNat ≤ 512) (d : Fin 4096) : accEnd Y G BE v (ix2 0 d) = ∑ s, maskY Y G BE v s d := by
  have hn := nc_le hv
  have h0 : ∑ x ∈ Finset.range (512 - 128 * nc v), maskN Y G BE v d (32 * (4 * nc v) + x) = 0 :=
    Finset.sum_eq_zero fun x hx => by
      have hx := Finset.mem_range.mp hx
      unfold maskN
      rw [dif_pos (by omega)]
      exact maskY_off Y G BE v _ d (by show v.toNat ≤ 32 * (4 * nc v) + x; unfold nc; omega)
  have hall : ∑ s, maskY Y G BE v s d = ∑ s ∈ Finset.range 512, maskN Y G BE v d s := by
    rw [Finset.sum_range]
    exact Finset.sum_congr rfl fun s _ => by unfold maskN; rw [dif_pos s.isLt]
  unfold accEnd
  rw [accv_apply Y G BE v d _ (t3_trips hv).ge (by omega), hall, show (512 : ℕ) = 32 * (4 * nc v) + (512 - 128 * nc v) by omega, Finset.sum_range_add, h0, add_zero]

/-- The batch's mean over the rows below the length. -/
def meanY (d : Fin 4096) : EReal := meanS (fun s d => Y (ix2 s d)) (fun d => G (ix2 0 d)) (fun d => BE (ix2 0 d)) v d

theorem pay19_apply (A : FVec Ideal S1x4096 .f32) (i : Fin 1) (d : Fin 4096) :
    k0_pay19 (F := Ideal) v A (ix2 i d) = Ideal.div (A (ix2 0 d)) (FloatOps.sitofp FTy.f32 v : Ideal .f32) := by
  obtain rfl : i = 0 := Subsingleton.elim _ _
  pointwise [k0_pay19]
theorem mean_apply (hv : v.toNat ≤ 512) (i : Fin 1) (d : Fin 4096) : k0_pay19 (F := Ideal) v (accEnd Y G BE v) (ix2 i d) = meanY Y G BE v d := by
  rw [pay19_apply, accEnd_apply Y G BE v hv d]; rfl
theorem pay20_apply (A : FVec Ideal S1x4096 .f32) (d : Fin 4096) : k0_pay20 (F := Ideal) v A (ix3 0 0 d) = k0_pay19 v A (ix2 0 d) := by
  pointwise [k0_pay20]

/-- The batch's second result, at an entry. -/
theorem meanv_apply (hv : v.toNat ≤ 512) (d : Fin 4096) : meanv Y G BE v (ix3 0 0 d) = meanY Y G BE v d := by
  unfold meanv; rw [pay20_apply, mean_apply Y G BE v hv]

theorem unit_apply (A : FVec Ideal S1x4096 .f32) (i : Fin 1) (d : Fin 4096) :
    k0_pay21 (F := Ideal) v A (ix2 i d) = unitS (fun d => k0_pay19 v A (ix2 0 d)) d := by
  obtain rfl : i = 0 := Subsingleton.elim _ _
  unfold unitS
  pointwise [k0_pay21]
theorem amax_apply (A : FVec Ideal S1x4096 .f32) (i j : Fin 1) :
    k0_pay22 (F := Ideal) v A (ix2 i j) = amaxS (fun d => k0_pay21 v A (ix2 0 d)) := by
  unfold amaxS
  pointwise [k0_pay22]
theorem scale_apply (A : FVec Ideal S1x4096 .f32) (i j : Fin 1) :
    k0_pay7 (k0_pay23 v A) (k0_pay24 v A) (k0_pay25 (F := Ideal)) (ix2 i j) = scaleS (fun d => k0_pay21 v A (ix2 0 d)) := by
  unfold scaleS
  rw [← amax_apply v A i j]
  pointwise [k0_pay7, k0_pay23, k0_pay24, k0_pay25]
theorem code_apply (A : FVec Ideal S1x4096 .f32) (d : Fin 4096) :
    k0_pay8 (k0_pay21 v A) (k0_pay23 v A) (k0_pay24 v A) (k0_pay25 (F := Ideal)) (ix3 0 0 d) = codeS (fun d => k0_pay21 v A (ix2 0 d)) d := by
  unfold codeS
  rw [← scale_apply v A 0 0]
  pointwise [k0_pay8]
theorem pay9_apply (A : FVec Ideal S1x4096 .f32) (d : Fin 128) :
    k0_pay9 (k0_pay23 v A) (k0_pay24 v A) (k0_pay25 (F := Ideal)) (ix3 0 0 d) = k0_pay7 (k0_pay23 v A) (k0_pay24 v A) (k0_pay25 (F := Ideal)) (ix2 0 0) := by
  pointwise [k0_pay9]

/-- The direction of the batch's mean. -/
theorem dir_eq (hv : v.toNat ≤ 512) : (fun d => k0_pay21 (F := Ideal) v (accEnd Y G BE v) (ix2 0 d)) = unitS (meanY Y G BE v) :=
  funext fun d => by rw [unit_apply]; exact congrArg (unitS · d) (funext fun d => mean_apply Y G BE v hv 0 d)

/-- The batch's third and fourth result, at an entry. -/
theorem codesv_apply (hv : v.toNat ≤ 512) (d : Fin 4096) : codesv Y G BE v (ix3 0 0 d) = codeS (unitS (meanY Y G BE v)) d := by
  unfold codesv; rw [code_apply, dir_eq Y G BE v hv]
theorem scalesv_apply (hv : v.toNat ≤ 512) (d : Fin 128) : scalesv Y G BE v (ix3 0 0 d) = scaleS (unitS (meanY Y G BE v)) := by
  unfold scalesv; rw [pay9_apply, scale_apply, dir_eq Y G BE v hv]

end Cert.KernelProof
-- ==== Proof.KernelResult.lean ====
/- The kernel's results: each result array's blocks are the batches' values, which the launch lays side by side; the last lines
   reshape and slice three of them. -/
module

public import proofs.«01_k».proof.Proof.KernelValue
public import proofs.«01_k».proof.Proof.Frame

@[expose] public section

set_option maxRecDepth 16384

noncomputable section

namespace Cert.KernelProof

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg) (c : Dev nD)

/-- The nine arguments, as launched. -/
abbrev kX : Vec Ideal S3x512x4096 .bf16 := m ((c.tc : Thread nD τ).loc main_arg0)
abbrev kH : Vec Ideal S3x512x14336 .fp8e4m3 := m ((c.tc : Thread nD τ).loc main_arg1)
abbrev kHS : Vec Ideal S3x512 .f32 := m ((c.tc : Thread nD τ).loc main_arg2)
abbrev kW : Vec Ideal S14336x4096 .fp8e4m3 := m ((c.tc : Thread nD τ).loc main_arg3)
abbrev kWS : Vec Ideal S4096 .f32 := m ((c.tc : Thread nD τ).loc main_arg4)
abbrev kB : Vec Ideal S4096 .f32 := m ((c.tc : Thread nD τ).loc main_arg5)
abbrev kG : Vec Ideal S4096 .f32 := m ((c.tc : Thread nD τ).loc main_arg6)
abbrev kBE : Vec Ideal S4096 .f32 := m ((c.tc : Thread nD τ).loc main_arg7)
abbrev kL : Vec Ideal S3 .i32 := m ((c.tc : Thread nD τ).loc main_arg8)

/-- The operands that the lines before the launch make. -/
theorem V_v0 : (V m c main_v0 : Vec Ideal S3x1x512 .f32) = shapeCast S3x1x512 (kHS m c) shapeCasts_S3x512_S3x1x512 := by
  show (StableHlo.after hostOps0 (fun b => m (c, b)) (Proc.devRef .tc main_v0) : Vec Ideal S3x1x512 .f32) = _
  after_results; rfl
theorem V_v1 : (V m c main_v1 : Vec Ideal S1x4096 .f32) = shapeCast S1x4096 (kWS m c) shapeCasts_S4096_S1x4096 := by
  show (StableHlo.after hostOps0 (fun b => m (c, b)) (Proc.devRef .tc main_v1) : Vec Ideal S1x4096 .f32) = _
  after_results; rfl
theorem V_v2 : (V m c main_v2 : Vec Ideal S1x4096 .f32) = shapeCast S1x4096 (kB m c) shapeCasts_S4096_S1x4096 := by
  show (StableHlo.after hostOps0 (fun b => m (c, b)) (Proc.devRef .tc main_v2) : Vec Ideal S1x4096 .f32) = _
  after_results; rfl
theorem V_v3 : (V m c main_v3 : Vec Ideal S1x4096 .f32) = shapeCast S1x4096 (kG m c) shapeCasts_S4096_S1x4096 := by
  show (StableHlo.after hostOps0 (fun b => m (c, b)) (Proc.devRef .tc main_v3) : Vec Ideal S1x4096 .f32) = _
  after_results; rfl
theorem V_v4 : (V m c main_v4 : Vec Ideal S1x4096 .f32) = shapeCast S1x4096 (kBE m c) shapeCasts_S4096_S1x4096 := by
  show (StableHlo.after hostOps0 (fun b => m (c, b)) (Proc.devRef .tc main_v4) : Vec Ideal S1x4096 .f32) = _
  after_results; rfl
theorem scaleRow_apply (x : Vec Ideal S3x512 .f32) (b : Fin 3) (s : Fin 512) :
    shapeCast S3x1x512 x shapeCasts_S3x512_S3x1x512 (ix3 b 0 s) = x (ix2 b s) := by pointwise
theorem lane_apply (x : Vec Ideal S4096 .f32) (d : Fin 4096) : shapeCast S1x4096 x shapeCasts_S4096_S1x4096 (ix2 0 d) = x (ix1 d) := by pointwise

/-- A batch's sum over the staged operands is the one over the arguments, -/
theorem sumB_apply (b : ℕ) (hb : b < 3) (s : Fin 512) (d : Fin 4096) : sumB m c b hb (ix2 s d)
    = rowsA (kX m c) (kH m c) (kHS m c) (kW m c) (kWS m c) (kB m c) ⟨b, hb⟩ s d := by
  unfold sumB rowsA
  rw [sumv_apply, V_v0, V_v1, V_v2, scaleRow_apply, lane_apply, lane_apply,
    V_keep m c main_arg0 (by decide) (by decide) (by decide) (by decide) (by decide),
    V_keep m c main_arg1 (by decide) (by decide) (by decide) (by decide) (by decide),
    V_keep m c main_arg3 (by decide) (by decide) (by decide) (by decide) (by decide)]
theorem rows_eq (b : ℕ) (hb : b < 3) : (fun s d => sumB m c b hb (ix2 s d))
    = rowsA (kX m c) (kH m c) (kHS m c) (kW m c) (kWS m c) (kB m c) ⟨b, hb⟩ := by
  funext s d; exact sumB_apply m c b hb s d
theorem gain_eq : (fun d => (V m c main_v3 : Vec Ideal S1x4096 .f32) (ix2 0 d)) = fun d => kG m c (ix1 d) :=
  funext fun d => by rw [V_v3, lane_apply]
theorem offset_eq : (fun d => (V m c main_v4 : Vec Ideal S1x4096 .f32) (ix2 0 d)) = fun d => kBE m c (ix1 d) :=
  funext fun d => by rw [V_v4, lane_apply]
theorem lenw_eq (b : ℕ) (hb : b < 3) : lenw m c b hb = kL m c (ix1 ⟨b, hb⟩) := by
  unfold lenw
  rw [V_keep m c main_arg8 (by decide) (by decide) (by decide) (by decide) (by decide)]
  exact congrArg (kL m c) (eq_ix1 _)
/-- and so are its masked rows and its mean. -/
theorem mask_eq (b : ℕ) (hb : b < 3) (s : Fin 512) (d : Fin 4096) : maskY (sumB m c b hb) (V m c main_v3) (V m c main_v4) (lenw m c b hb) s d
    = resZ (kX m c) (kH m c) (kHS m c) (kW m c) (kWS m c) (kB m c) (kG m c) (kBE m c) (kL m c) ⟨b, hb⟩ s d := by
  unfold maskY resZ; rw [rows_eq, gain_eq, offset_eq, lenw_eq]
theorem mean_eq (b : ℕ) (hb : b < 3) : meanY (sumB m c b hb) (V m c main_v3) (V m c main_v4) (lenw m c b hb)
    = resM (kX m c) (kH m c) (kHS m c) (kW m c) (kWS m c) (kB m c) (kG m c) (kBE m c) (kL m c) ⟨b, hb⟩ := by
  funext d
  unfold meanY resM; rw [rows_eq, gain_eq, offset_eq, lenw_eq]

/-- The last step of each batch. -/
theorem lastPt : ∀ b : Fin 3, ∃ t : Fin grid0.N, bat t = b.val ∧ col t = 7 := by decide +kernel

/-- An output array ends at `G`, if each batch's last step leaves `G`'s entries in its block, and the batches' blocks reach every entry. -/
theorem arr_of (w : Fin (cfg0 (adm m 0)).W) (G) (hf : ∀ t, ((cfg0 (adm m 0)).win w).flush t = decide (col t = 7))
    (hG : ∀ t, ((cfg0 (adm m 0)).win w).cut (grid0.coords t) ((dats m 0 c).after w t) = (((cfg0 (adm m 0)).win w).blk t).view.read (Elt Ideal) G)
    (hc : ∀ i : ((cfg0 (adm m 0)).win w).arr.view.ty.Idx, ∃ b : Fin 3, ∀ t, bat t = b.val → i ∈ (((cfg0 (adm m 0)).win w).blk t).view.set) :
    (dats m 0 c).arrAt w (cfg0 (adm m 0)).N = G := by
  refine (dats m 0 c).arrAt_eq_of_cover w G (fun t _ => hG t) fun i => ?_
  obtain ⟨b, h⟩ := hc i
  obtain ⟨t, hb, h7⟩ := lastPt b
  exact ⟨t, (hf t).trans (decide_eq_true h7), h t hb⟩

/-- The block of the batch alone: its first coordinate is the batch, the others are the block's own. -/
theorem batch_emb {p q : ℕ} (t : Fin grid0.N) (x : Shape.Idx ⟨3, ![1, p, q]⟩) (y : Shape.Idx ⟨3, ![3, p, q]⟩)
    (h0 : (y 0).val = cc0_transform_8 (grid0.coords t) 0 * 1 + 1 * (x 0).val) (h1 : (y 1).val = cc0_transform_8 (grid0.coords t) 1 * p + 1 * (x 1).val)
    (h2 : (y 2).val = cc0_transform_8 (grid0.coords t) 2 * q + 1 * (x 2).val) : y = ix3 (⟨bat t, bat_lt t⟩ : Fin 3) (x 1) (x 2) := by
  have hi : ∀ t : Fin grid0.N, cc0_transform_8 (grid0.coords t) 0 = bat t ∧ cc0_transform_8 (grid0.coords t) 1 = 0 ∧ cc0_transform_8 (grid0.coords t) 2 = 0 := by decide +kernel
  obtain ⟨i0, i1, i2⟩ := hi t
  have hx : (x 0).val = 0 := Nat.lt_one_iff.mp (x 0).isLt
  rw [i0] at h0; rw [i1] at h1; rw [i2] at h2
  refine funext fun a => Fin.ext ?_
  match a with
  | ⟨0, _⟩ => show (y 0).val = bat t; omega
  | ⟨1, _⟩ => show (y 1).val = (x 1).val; omega
  | ⟨2, _⟩ => show (y 2).val = (x 2).val; omega
/-- Every entry lies in its batch's. -/
theorem batch_back {p q : ℕ} (t : Fin grid0.N) (i : Shape.Idx ⟨3, ![3, p, q]⟩) (h : bat t = (i 0).val) :
    ix3 (⟨bat t, bat_lt t⟩ : Fin 3) (i 1) (i 2) = i := by
  refine funext fun a => ?_
  match a with
  | ⟨0, _⟩ => exact Fin.ext h
  | ⟨1, _⟩ => rfl
  | ⟨2, _⟩ => rfl

/-- Each of the four output windows stages the batch's block. -/
theorem emb_8 (t : Fin grid0.N) (x : S1x512x4096.Idx) : ((((cfg0 (adm m 0)).win 8).blk t).view.emb x : S3x512x4096.Idx) = ix3 (⟨bat t, bat_lt t⟩ : Fin 3) (x 1) (x 2) :=
  batch_emb t x _ rfl rfl rfl
theorem emb_9 (t : Fin grid0.N) (x : S1x1x4096.Idx) : ((((cfg0 (adm m 0)).win 9).blk t).view.emb x : S3x1x4096.Idx) = ix3 (⟨bat t, bat_lt t⟩ : Fin 3) (x 1) (x 2) :=
  batch_emb t x _ rfl rfl rfl
theorem emb_10 (t : Fin grid0.N) (x : S1x1x4096.Idx) : ((((cfg0 (adm m 0)).win 10).blk t).view.emb x : S3x1x4096.Idx) = ix3 (⟨bat t, bat_lt t⟩ : Fin 3) (x 1) (x 2) :=
  batch_emb t x _ rfl rfl rfl
theorem emb_11 (t : Fin grid0.N) (x : S1x1x128.Idx) : ((((cfg0 (adm m 0)).win 11).blk t).view.emb x : S3x1x128.Idx) = ix3 (⟨bat t, bat_lt t⟩ : Fin 3) (x 1) (x 2) :=
  batch_emb t x _ rfl rfl rfl

/-- The batches' result blocks, at an entry. -/
theorem zmB_apply (hL : ∀ c b hb, (lenw m c b hb).toNat ≤ 512) (b : ℕ) (hb : b < 3) (x : S1x512x4096.Idx) : zmB m c b hb x = resZ (kX m c) (kH m c) (kHS m c) (kW m c) (kWS m c) (kB m c) (kG m c) (kBE m c) (kL m c) ⟨b, hb⟩ (x 1) (x 2) := by
  idx_vars x
  obtain rfl : x0 = 0 := Subsingleton.elim _ _
  unfold zmB; rw [zmv_apply _ _ _ _ (hL c _ _), mask_eq]
theorem meanB_apply (hL : ∀ c b hb, (lenw m c b hb).toNat ≤ 512) (b : ℕ) (hb : b < 3) (x : S1x1x4096.Idx) : meanB m c b hb x = resM (kX m c) (kH m c) (kHS m c) (kW m c) (kWS m c) (kB m c) (kG m c) (kBE m c) (kL m c) ⟨b, hb⟩ (x 2) := by
  idx_vars x
  obtain rfl : x0 = 0 := Subsingleton.elim _ _
  obtain rfl : x1 = 0 := Subsingleton.elim _ _
  unfold meanB; rw [meanv_apply _ _ _ _ (hL c _ _), mean_eq]
theorem codesB_apply (hL : ∀ c b hb, (lenw m c b hb).toNat ≤ 512) (b : ℕ) (hb : b < 3) (x : S1x1x4096.Idx) : codesB m c b hb x = resC (kX m c) (kH m c) (kHS m c) (kW m c) (kWS m c) (kB m c) (kG m c) (kBE m c) (kL m c) ⟨b, hb⟩ (x 2) := by
  idx_vars x
  obtain rfl : x0 = 0 := Subsingleton.elim _ _
  obtain rfl : x1 = 0 := Subsingleton.elim _ _
  unfold codesB; rw [codesv_apply _ _ _ _ (hL c _ _), mean_eq]; rfl
theorem scalesB_apply (hL : ∀ c b hb, (lenw m c b hb).toNat ≤ 512) (b : ℕ) (hb : b < 3) (x : S1x1x128.Idx) : scalesB m c b hb x = resS (kX m c) (kH m c) (kHS m c) (kW m c) (kWS m c) (kB m c) (kG m c) (kBE m c) (kL m c) ⟨b, hb⟩ := by
  idx_vars x
  obtain rfl : x0 = 0 := Subsingleton.elim _ _
  obtain rfl : x1 = 0 := Subsingleton.elim _ _
  unfold scalesB; rw [scalesv_apply _ _ _ _ (hL c _ _), mean_eq]; rfl

/-- The four output arrays. -/
theorem arr_8 (hL : ∀ c b hb, (lenw m c b hb).toNat ≤ 512) : (dats m 0 c).arrAt 8 (cfg0 (adm m 0)).N = (fun i => resZ (kX m c) (kH m c) (kHS m c) (kW m c) (kWS m c) (kB m c) (kG m c) (kBE m c) (kL m c) (i 0) (i 1) (i 2) : Vec Ideal S3x512x4096 .f32) :=
  arr_of m c 8 _ (flush_8 m)
    (fun t => by rw [after_8]; exact funext fun x => (zmB_apply m c hL _ (bat_lt t) x).trans (congrArg (fun i => resZ (kX m c) (kH m c) (kHS m c) (kW m c) (kWS m c) (kB m c) (kG m c) (kBE m c) (kL m c) (i 0) (i 1) (i 2) : Vec Ideal S3x512x4096 .f32) (emb_8 m t x)).symm)
    (fun (i : S3x512x4096.Idx) => ⟨i 0, fun t h => (congrArg (fun z => z ∈ (((cfg0 (adm m 0)).win 8).blk t).view.set) ((emb_8 m t (ix3 (0 : Fin 1) (i 1) (i 2))).trans (batch_back t i h))).mp
      (View.emb_mem_set _ (ix3 (0 : Fin 1) (i 1) (i 2) : S1x512x4096.Idx))⟩)
theorem arr_9 (hL : ∀ c b hb, (lenw m c b hb).toNat ≤ 512) : (dats m 0 c).arrAt 9 (cfg0 (adm m 0)).N = (fun i => resM (kX m c) (kH m c) (kHS m c) (kW m c) (kWS m c) (kB m c) (kG m c) (kBE m c) (kL m c) (i 0) (i 2) : Vec Ideal S3x1x4096 .f32) :=
  arr_of m c 9 _ (flush_9 m)
    (fun t => by rw [after_9]; exact funext fun x => (meanB_apply m c hL _ (bat_lt t) x).trans (congrArg (fun i => resM (kX m c) (kH m c) (kHS m c) (kW m c) (kWS m c) (kB m c) (kG m c) (kBE m c) (kL m c) (i 0) (i 2) : Vec Ideal S3x1x4096 .f32) (emb_9 m t x)).symm)
    (fun (i : S3x1x4096.Idx) => ⟨i 0, fun t h => (congrArg (fun z => z ∈ (((cfg0 (adm m 0)).win 9).blk t).view.set) ((emb_9 m t (ix3 (0 : Fin 1) (i 1) (i 2))).trans (batch_back t i h))).mp
      (View.emb_mem_set _ (ix3 (0 : Fin 1) (i 1) (i 2) : S1x1x4096.Idx))⟩)
theorem arr_10 (hL : ∀ c b hb, (lenw m c b hb).toNat ≤ 512) : (dats m 0 c).arrAt 10 (cfg0 (adm m 0)).N = (fun i => resC (kX m c) (kH m c) (kHS m c) (kW m c) (kWS m c) (kB m c) (kG m c) (kBE m c) (kL m c) (i 0) (i 2) : Vec Ideal S3x1x4096 .i8) :=
  arr_of m c 10 _ (flush_10 m)
    (fun t => by rw [after_10]; exact funext fun x => (codesB_apply m c hL _ (bat_lt t) x).trans (congrArg (fun i => resC (kX m c) (kH m c) (kHS m c) (kW m c) (kWS m c) (kB m c) (kG m c) (kBE m c) (kL m c) (i 0) (i 2) : Vec Ideal S3x1x4096 .i8) (emb_10 m t x)).symm)
    (fun (i : S3x1x4096.Idx) => ⟨i 0, fun t h => (congrArg (fun z => z ∈ (((cfg0 (adm m 0)).win 10).blk t).view.set) ((emb_10 m t (ix3 (0 : Fin 1) (i 1) (i 2))).trans (batch_back t i h))).mp
      (View.emb_mem_set _ (ix3 (0 : Fin 1) (i 1) (i 2) : S1x1x4096.Idx))⟩)
theorem arr_11 (hL : ∀ c b hb, (lenw m c b hb).toNat ≤ 512) : (dats m 0 c).arrAt 11 (cfg0 (adm m 0)).N = (fun i => resS (kX m c) (kH m c) (kHS m c) (kW m c) (kWS m c) (kB m c) (kG m c) (kBE m c) (kL m c) (i 0) : Vec Ideal S3x1x128 .f32) :=
  arr_of m c 11 _ (flush_11 m)
    (fun t => by rw [after_11]; exact funext fun x => (scalesB_apply m c hL _ (bat_lt t) x).trans (congrArg (fun i => resS (kX m c) (kH m c) (kHS m c) (kW m c) (kWS m c) (kB m c) (kG m c) (kBE m c) (kL m c) (i 0) : Vec Ideal S3x1x128 .f32) (emb_11 m t x)).symm)
    (fun (i : S3x1x128.Idx) => ⟨i 0, fun t h => (congrArg (fun z => z ∈ (((cfg0 (adm m 0)).win 11).blk t).view.set) ((emb_11 m t (ix3 (0 : Fin 1) (i 1) (i 2))).trans (batch_back t i h))).mp
      (View.emb_mem_set _ (ix3 (0 : Fin 1) (i 1) (i 2) : S1x1x128.Idx))⟩)

/-- The last lines reshape two of them, and slice and reshape the last. -/
theorem tail_v6 (U : Valuation τ sig (Elt Ideal)) : (StableHlo.after hostOps1 U (Proc.devRef .tc main_v6) : Vec Ideal S3x4096 .f32)
    = shapeCast S3x4096 (U (Proc.devRef .tc main_v5_1) : Vec Ideal S3x1x4096 .f32) shapeCasts_S3x1x4096_S3x4096 := by
  after_results; rfl
theorem tail_v7 (U : Valuation τ sig (Elt Ideal)) : (StableHlo.after hostOps1 U (Proc.devRef .tc main_v7) : Vec Ideal S3x4096 .i8)
    = shapeCast S3x4096 (U (Proc.devRef .tc main_v5_2) : Vec Ideal S3x1x4096 .i8) shapeCasts_S3x1x4096_S3x4096 := by
  after_results; rfl
theorem tail_v9 (U : Valuation τ sig (Elt Ideal)) : (StableHlo.after hostOps1 U (Proc.devRef .tc main_v9) : Vec Ideal S3 .f32)
    = shapeCast S3 (extractStridedSlice S3x1x1 ![0, 0, 0] (U (Proc.devRef .tc main_v5_3) : Vec Ideal S3x1x128 .f32) slices_S3x1x128_S3x1x1_0_0_0) shapeCasts_S3x1x1_S3 := by
  after_results; rfl

theorem arr_inj : Function.Injective (Pipeline.arrRef (sig := sig) spec0) := by decide

theorem end_v6 (hL : ∀ c b hb, (lenw m c b hb).toNat ≤ 512) :
    Pipeline.afterTail pcfgs (adm m) (dats m) 0 (V0 m) [hostOps1] c main_v6 = (fun i => resM (kX m c) (kH m c) (kHS m c) (kW m c) (kWS m c) (kB m c) (kG m c) (kBE m c) (kL m c) (i 0) (i 1) : Vec Ideal S3x4096 .f32) := by
  refine (tail_v6 _).trans ((congrArg (fun x => shapeCast S3x4096 x shapeCasts_S3x1x4096_S3x4096)
    ((Pipeline.withArrays_arr spec0 arr_inj c (V0 m c) (fun w => (dats m 0 c).arrAt w (cfg0 (adm m 0)).N) 9).trans (arr_9 m c hL))).trans ?_)
  funext i; idx_vars i
  pointwise
theorem end_v7 (hL : ∀ c b hb, (lenw m c b hb).toNat ≤ 512) :
    Pipeline.afterTail pcfgs (adm m) (dats m) 0 (V0 m) [hostOps1] c main_v7 = (fun i => resC (kX m c) (kH m c) (kHS m c) (kW m c) (kWS m c) (kB m c) (kG m c) (kBE m c) (kL m c) (i 0) (i 1) : Vec Ideal S3x4096 .i8) := by
  refine (tail_v7 _).trans ((congrArg (fun x => shapeCast S3x4096 x shapeCasts_S3x1x4096_S3x4096)
    ((Pipeline.withArrays_arr spec0 arr_inj c (V0 m c) (fun w => (dats m 0 c).arrAt w (cfg0 (adm m 0)).N) 10).trans (arr_10 m c hL))).trans ?_)
  funext i; idx_vars i
  pointwise
theorem end_v9 (hL : ∀ c b hb, (lenw m c b hb).toNat ≤ 512) :
    Pipeline.afterTail pcfgs (adm m) (dats m) 0 (V0 m) [hostOps1] c main_v9 = (fun i => resS (kX m c) (kH m c) (kHS m c) (kW m c) (kWS m c) (kB m c) (kG m c) (kBE m c) (kL m c) (i 0) : Vec Ideal S3 .f32) := by
  refine (tail_v9 _).trans ((congrArg (fun x => shapeCast S3 (extractStridedSlice S3x1x1 ![0, 0, 0] x slices_S3x1x128_S3x1x1_0_0_0) shapeCasts_S3x1x1_S3)
    ((Pipeline.withArrays_arr spec0 arr_inj c (V0 m c) (fun w => (dats m 0 c).arrAt w (cfg0 (adm m 0)).N) 11).trans (arr_11 m c hL))).trans ?_)
  funext i; idx_vars i
  pointwise
theorem rest_v6 : main_v6 ∈ Pipeline.restRefs sig spec0 := Pipeline.mem_restRefs_of main_v6 (by decide) (by decide)
theorem rest_v7 : main_v7 ∈ Pipeline.restRefs sig spec0 := Pipeline.mem_restRefs_of main_v7 (by decide) (by decide)
theorem rest_v9 : main_v9 ∈ Pipeline.restRefs sig spec0 := Pipeline.mem_restRefs_of main_v9 (by decide) (by decide)

/-- The run's four results. -/
theorem results (hL : ∀ c b hb, (lenw m c b hb).toNat ≤ 512) : θ_run defs (onTc (τ := τ) (main (F := Ideal))) ⟨m, fun _ => 0, ρ⟩ (fun r => ∀ c : Dev nD,
      r.2.mem ((c.tc : Thread nD τ).loc main_v5_0) = (fun i => resZ (kX m c) (kH m c) (kHS m c) (kW m c) (kWS m c) (kB m c) (kG m c) (kBE m c) (kL m c) (i 0) (i 1) (i 2) : Vec Ideal S3x512x4096 .f32)
      ∧ r.2.mem ((c.tc : Thread nD τ).loc main_v6) = (fun i => resM (kX m c) (kH m c) (kHS m c) (kW m c) (kWS m c) (kB m c) (kG m c) (kBE m c) (kL m c) (i 0) (i 1) : Vec Ideal S3x4096 .f32)
      ∧ r.2.mem ((c.tc : Thread nD τ).loc main_v7) = (fun i => resC (kX m c) (kH m c) (kHS m c) (kW m c) (kWS m c) (kB m c) (kG m c) (kBE m c) (kL m c) (i 0) (i 1) : Vec Ideal S3x4096 .i8)
      ∧ r.2.mem ((c.tc : Thread nD τ).loc main_v9) = (fun i => resS (kX m c) (kH m c) (kHS m c) (kW m c) (kWS m c) (kB m c) (kG m c) (kBE m c) (kL m c) (i 0) : Vec Ideal S3 .f32)) :=
  (θ_run defs _ _).mono (fun _ h c => ⟨((h.1 c).1 8).trans (arr_8 m c hL), ((h.1 c).2 main_v6 rest_v6).trans (end_v6 m c hL),
    ((h.1 c).2 main_v7 rest_v7).trans (end_v7 m c hL), ((h.1 c).2 main_v9 rest_v9).trans (end_v9 m c hL)⟩) (run_main_quiescent m ρ hL)

end Cert.KernelProof
-- ==== Proof.RefValue.lean ====
/- What the reference's body computes is the mathematics of `Ideal.lean`, entry by entry. -/
module

public import proofs.«01_k».proof.Proof.Ideal
public import proofs.«01_k».proof.Proof.Gen.ReferenceIdeal.Frame

@[expose] public section

set_option maxRecDepth 16384

noncomputable section

namespace Cert.ReferenceProof

open Cert.ReferenceIdeal Cert.ReferenceIdeal.Gen Cert.KernelProof
open Idealize.ShloMosaic Idealize.ShloMosaic.TcCoe

variable (x0 : Vec Ideal S3x512x4096 .bf16) (x1 : Vec Ideal S3x512x14336 .fp8e4m3) (x2 : Vec Ideal S3x512x1 .f32) (x3 : Vec Ideal S14336x4096 .fp8e4m3)
  (x4 x5 x6 x7 : Vec Ideal S1x1x4096 .f32) (x8 : Vec Ideal S3x1x1 .i32)

/-- The sum's rows, the mean of the normalised rows, and the mean's direction, from the operands' blocks. -/
def rowsR (b : Fin 3) (s : Fin 512) (d : Fin 4096) : EReal :=
  sumS (x0 (ix3 b s d)) (fun f => x1 (ix3 b s f)) (fun f => x3 (ix2 f d)) (x2 (ix3 b s 0)) (x4 (ix3 0 0 d)) (x5 (ix3 0 0 d))
def meanR (b : Fin 3) (d : Fin 4096) : EReal :=
  meanS (rowsR x0 x1 x2 x3 x4 x5 b) (fun d => x6 (ix3 0 0 d)) (fun d => x7 (ix3 0 0 d)) (x8 (ix3 b 0 0)) d

theorem pay2_eq : k0_pay2 x8 = x8 := by
  funext j; idx_vars j
  pointwise [k0_pay2]
theorem pay3_apply (b : Fin 3) (s : Fin 512) (d : Fin 4096) :
    k0_pay3 x0 x2 x1 x3 x4 x5 (ix3 b s d) = centS (rowsR x0 x1 x2 x3 x4 x5 b s) d := by
  unfold centS rowsR sumS
  pointwise [k0_pay3]
theorem pay4_apply (b : Fin 3) (s : Fin 512) :
    k0_pay4 x0 x2 x1 x3 x4 x5 (ix3 b s 0) = Ideal.rsqrt (Ideal.div (∑ x, centS (rowsR x0 x1 x2 x3 x4 x5 b s) x * centS (rowsR x0 x1 x2 x3 x4 x5 b s) x)
      (Ideal.ofBits FTy.f32 1166016512#32) + Ideal.ofBits FTy.f32 925353388#32) := by
  simp only [← pay3_apply]
  pointwise [k0_pay4]
theorem pay5_apply (b : Fin 3) (s : Fin 512) (d : Fin 4096) :
    k0_pay5 x8 (k0_pay3 x0 x2 x1 x3 x4 x5) (k0_pay4 x0 x2 x1 x3 x4 x5) x6 x7 (ix3 b s d)
      = maskS (rowsR x0 x1 x2 x3 x4 x5 b) (fun d => x6 (ix3 0 0 d)) (fun d => x7 (ix3 0 0 d)) (x8 (ix3 b 0 0)) s d := by
  unfold maskS normS
  rw [← pay4_apply, ← pay3_apply]
  pointwise [k0_pay5]
theorem pay6_apply (b : Fin 3) (d : Fin 4096) :
    k0_pay6 x8 (k0_pay3 x0 x2 x1 x3 x4 x5) (k0_pay4 x0 x2 x1 x3 x4 x5) x6 x7 (ix3 b 0 d) = meanR x0 x1 x2 x3 x4 x5 x6 x7 x8 b d := by
  unfold meanR meanS
  simp only [← pay5_apply]
  pointwise [k0_pay6]
theorem pay7_apply (b : Fin 3) (d : Fin 4096) :
    k0_pay7 x8 (k0_pay3 x0 x2 x1 x3 x4 x5) (k0_pay4 x0 x2 x1 x3 x4 x5) x6 x7 (ix3 b 0 d) = unitS (meanR x0 x1 x2 x3 x4 x5 x6 x7 x8 b) d := by
  unfold unitS
  simp only [← pay6_apply]
  pointwise [k0_pay7]
theorem pay8_apply (b : Fin 3) :
    k0_pay8 x8 (k0_pay3 x0 x2 x1 x3 x4 x5) (k0_pay4 x0 x2 x1 x3 x4 x5) x6 x7 (ix3 b 0 0) = scaleS (unitS (meanR x0 x1 x2 x3 x4 x5 x6 x7 x8 b)) := by
  unfold scaleS amaxS
  simp only [← pay7_apply]
  pointwise [k0_pay8]
theorem pay1_apply (b : Fin 3) (d : Fin 4096) :
    k0_pay1 (k0_pay7 x8 (k0_pay3 x0 x2 x1 x3 x4 x5) (k0_pay4 x0 x2 x1 x3 x4 x5) x6 x7) (k0_pay8 x8 (k0_pay3 x0 x2 x1 x3 x4 x5) (k0_pay4 x0 x2 x1 x3 x4 x5) x6 x7) (ix3 b 0 d)
      = codeS (unitS (meanR x0 x1 x2 x3 x4 x5 x6 x7 x8 b)) d := by
  unfold codeS
  rw [← pay8_apply, ← pay7_apply]
  pointwise [k0_pay1]

theorem zero3 : (![0, 0, 0] : Fin 3 → ℕ) = fun _ => 0 := by decide
theorem zero2 : (![0, 0] : Fin 2 → ℕ) = fun _ => 0 := by decide

/-- The operands are loaded whole. -/
theorem len_eq : Gen.k0_pay9 x0 x1 x2 x3 x4 x5 x6 x7 x8 = x8 := by
  unfold Gen.k0_pay9; rw [View.ld_unit_zero (S := S3x1x1) zero3, pay2_eq]
theorem cent_eq : Gen.k0_pay10 x0 x1 x2 x3 x4 x5 x6 x7 x8 = k0_pay3 x0 x2 x1 x3 x4 x5 := by
  unfold Gen.k0_pay10
  rw [View.ld_unit_zero (S := S3x512x4096) zero3, View.ld_unit_zero (S := S3x512x1) zero3, View.ld_unit_zero (S := S3x512x14336) zero3,
    View.ld_unit_zero (S := S14336x4096) zero2, View.ld_unit_zero (S := S1x1x4096) zero3, View.ld_unit_zero (S := S1x1x4096) zero3]
theorem inv_eq : Gen.k0_pay11 x0 x1 x2 x3 x4 x5 x6 x7 x8 = k0_pay4 x0 x2 x1 x3 x4 x5 := by
  unfold Gen.k0_pay11
  rw [View.ld_unit_zero (S := S3x512x4096) zero3, View.ld_unit_zero (S := S3x512x1) zero3, View.ld_unit_zero (S := S3x512x14336) zero3,
    View.ld_unit_zero (S := S14336x4096) zero2, View.ld_unit_zero (S := S1x1x4096) zero3, View.ld_unit_zero (S := S1x1x4096) zero3]
theorem scale_eq : Gen.k0_pay12 x0 x1 x2 x3 x4 x5 x6 x7 x8 = k0_pay8 x8 (k0_pay3 x0 x2 x1 x3 x4 x5) (k0_pay4 x0 x2 x1 x3 x4 x5) x6 x7 := by
  unfold Gen.k0_pay12
  rw [len_eq, cent_eq, inv_eq, View.ld_unit_zero (S := S1x1x4096) zero3, View.ld_unit_zero (S := S1x1x4096) zero3]

/-- The four results of the body, at an entry. -/
theorem out9_apply (b : Fin 3) (s : Fin 512) (d : Fin 4096) : out0_9 x0 x1 x2 x3 x4 x5 x6 x7 x8 (ix3 b s d)
    = maskS (rowsR x0 x1 x2 x3 x4 x5 b) (fun d => x6 (ix3 0 0 d)) (fun d => x7 (ix3 0 0 d)) (x8 (ix3 b 0 0)) s d := by
  unfold out0_9
  rw [View.canon_unit_zero (S := S3x512x4096) zero3, len_eq, cent_eq, inv_eq, View.ld_unit_zero (S := S1x1x4096) zero3, View.ld_unit_zero (S := S1x1x4096) zero3]
  exact pay5_apply x0 x1 x2 x3 x4 x5 x6 x7 x8 b s d
theorem out10_apply (b : Fin 3) (d : Fin 4096) : out0_10 x0 x1 x2 x3 x4 x5 x6 x7 x8 (ix3 b 0 d) = meanR x0 x1 x2 x3 x4 x5 x6 x7 x8 b d := by
  unfold out0_10
  rw [View.canon_unit_zero (S := S3x1x4096) zero3, len_eq, cent_eq, inv_eq, View.ld_unit_zero (S := S1x1x4096) zero3, View.ld_unit_zero (S := S1x1x4096) zero3]
  exact pay6_apply x0 x1 x2 x3 x4 x5 x6 x7 x8 b d
theorem out11_apply (b : Fin 3) (d : Fin 4096) : out0_11 x0 x1 x2 x3 x4 x5 x6 x7 x8 (ix3 b 0 d) = codeS (unitS (meanR x0 x1 x2 x3 x4 x5 x6 x7 x8 b)) d := by
  unfold out0_11
  rw [View.canon_unit_zero (S := S3x1x4096) zero3, len_eq, cent_eq, inv_eq, scale_eq, View.ld_unit_zero (S := S1x1x4096) zero3, View.ld_unit_zero (S := S1x1x4096) zero3]
  exact pay1_apply x0 x1 x2 x3 x4 x5 x6 x7 x8 b d
theorem out12_apply (b : Fin 3) : out0_12 x0 x1 x2 x3 x4 x5 x6 x7 x8 (ix3 b 0 0) = scaleS (unitS (meanR x0 x1 x2 x3 x4 x5 x6 x7 x8 b)) := by
  unfold out0_12
  rw [View.canon_unit_zero (S := S3x1x1) zero3, scale_eq]
  exact pay8_apply x0 x1 x2 x3 x4 x5 x6 x7 x8 b

end Cert.ReferenceProof
-- ==== Proof.RefResult.lean ====
/- The reference's run ends with its four results at the mathematics of `Ideal.lean` over its arguments. -/
module

public import proofs.«01_k».proof.Proof.RefValue
public import Idealize.ShloMosaic.Lib.Pipeline.Value
public import Idealize.ShloMosaic.Lib.Memref

@[expose] public section

set_option maxRecDepth 16384

noncomputable section

namespace Cert.ReferenceProof

open Cert.ReferenceIdeal Cert.ReferenceIdeal.Gen Cert.KernelProof
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg) (c : Dev nD)

/-- The nine arguments. -/
abbrev aX : Vec Ideal S3x512x4096 .bf16 := m ((c : Thread nD τ).loc main_arg0)
abbrev aH : Vec Ideal S3x512x14336 .fp8e4m3 := m ((c : Thread nD τ).loc main_arg1)
abbrev aHS : Vec Ideal S3x512 .f32 := m ((c : Thread nD τ).loc main_arg2)
abbrev aW : Vec Ideal S14336x4096 .fp8e4m3 := m ((c : Thread nD τ).loc main_arg3)
abbrev aWS : Vec Ideal S4096 .f32 := m ((c : Thread nD τ).loc main_arg4)
abbrev aB : Vec Ideal S4096 .f32 := m ((c : Thread nD τ).loc main_arg5)
abbrev aG : Vec Ideal S4096 .f32 := m ((c : Thread nD τ).loc main_arg6)
abbrev aBE : Vec Ideal S4096 .f32 := m ((c : Thread nD τ).loc main_arg7)
abbrev aL : Vec Ideal S3 .i32 := m ((c : Thread nD τ).loc main_arg8)

/-- The reshaped arguments that the grid stages. -/
theorem V_v0 : (V m c main_v0 : Vec Ideal S3x512x1 .f32) = shapeCast S3x512x1 (aHS m c) shapeCasts_S3x512_S3x512x1 := by
  show StableHlo.after hostOps0 _ (Proc.devRef .tc main_v0) = _
  after_results; rfl
theorem V_v1 : (V m c main_v1 : Vec Ideal S1x1x4096 .f32) = shapeCast S1x1x4096 (aWS m c) shapeCasts_S4096_S1x1x4096 := by
  show StableHlo.after hostOps0 _ (Proc.devRef .tc main_v1) = _
  after_results; rfl
theorem V_v2 : (V m c main_v2 : Vec Ideal S1x1x4096 .f32) = shapeCast S1x1x4096 (aB m c) shapeCasts_S4096_S1x1x4096 := by
  show StableHlo.after hostOps0 _ (Proc.devRef .tc main_v2) = _
  after_results; rfl
theorem V_v3 : (V m c main_v3 : Vec Ideal S1x1x4096 .f32) = shapeCast S1x1x4096 (aG m c) shapeCasts_S4096_S1x1x4096 := by
  show StableHlo.after hostOps0 _ (Proc.devRef .tc main_v3) = _
  after_results; rfl
theorem V_v4 : (V m c main_v4 : Vec Ideal S1x1x4096 .f32) = shapeCast S1x1x4096 (aBE m c) shapeCasts_S4096_S1x1x4096 := by
  show StableHlo.after hostOps0 _ (Proc.devRef .tc main_v4) = _
  after_results; rfl
theorem V_v5 : (V m c main_v5 : Vec Ideal S3x1x1 .i32) = shapeCast S3x1x1 (aL m c) shapeCasts_S3_S3x1x1 := by
  show StableHlo.after hostOps0 _ (Proc.devRef .tc main_v5) = _
  after_results; rfl

/-- Their entries. -/
theorem scaleCol_apply (x : Vec Ideal S3x512 .f32) (b : Fin 3) (s : Fin 512) :
    shapeCast S3x512x1 x shapeCasts_S3x512_S3x512x1 (ix3 b s 0) = x (ix2 b s) := by pointwise
theorem lane_apply (x : Vec Ideal S4096 .f32) (d : Fin 4096) :
    shapeCast S1x1x4096 x shapeCasts_S4096_S1x1x4096 (ix3 0 0 d) = x (ix1 d) := by pointwise
theorem len_apply (x : Vec Ideal S3 .i32) (b : Fin 3) :
    shapeCast S3x1x1 x shapeCasts_S3_S3x1x1 (ix3 b 0 0) = x (ix1 b) := by pointwise

/-- Each operand is staged whole at the one grid point. -/
theorem iblk0 (t : Fin cfg0.N) : (iblk m c 0 t : Vec Ideal S3x512x4096 .bf16) = V m c main_arg0 :=
  have hz : ∀ t : Fin cfg0.N, (fun a => win0_0.index t a * main_arg0.ty.shape.size a) = fun _ => 0 := by decide +kernel
  Memref.read_access_unit_zero (Elt Ideal) main_arg0 (hz t) (fun a => by rw [congrFun (hz t) a]; simp) (V m c main_arg0)
theorem iblk1 (t : Fin cfg0.N) : (iblk m c 1 t : Vec Ideal S3x512x14336 .fp8e4m3) = V m c main_arg1 :=
  have hz : ∀ t : Fin cfg0.N, (fun a => win0_1.index t a * main_arg1.ty.shape.size a) = fun _ => 0 := by decide +kernel
  Memref.read_access_unit_zero (Elt Ideal) main_arg1 (hz t) (fun a => by rw [congrFun (hz t) a]; simp) (V m c main_arg1)
theorem iblk2 (t : Fin cfg0.N) : (iblk m c 2 t : Vec Ideal S3x512x1 .f32) = V m c main_v0 :=
  have hz : ∀ t : Fin cfg0.N, (fun a => win0_2.index t a * main_v0.ty.shape.size a) = fun _ => 0 := by decide +kernel
  Memref.read_access_unit_zero (Elt Ideal) main_v0 (hz t) (fun a => by rw [congrFun (hz t) a]; simp) (V m c main_v0)
theorem iblk3 (t : Fin cfg0.N) : (iblk m c 3 t : Vec Ideal S14336x4096 .fp8e4m3) = V m c main_arg3 :=
  have hz : ∀ t : Fin cfg0.N, (fun a => win0_3.index t a * main_arg3.ty.shape.size a) = fun _ => 0 := by decide +kernel
  Memref.read_access_unit_zero (Elt Ideal) main_arg3 (hz t) (fun a => by rw [congrFun (hz t) a]; simp) (V m c main_arg3)
theorem iblk4 (t : Fin cfg0.N) : (iblk m c 4 t : Vec Ideal S1x1x4096 .f32) = V m c main_v1 :=
  have hz : ∀ t : Fin cfg0.N, (fun a => win0_4.index t a * main_v1.ty.shape.size a) = fun _ => 0 := by decide +kernel
  Memref.read_access_unit_zero (Elt Ideal) main_v1 (hz t) (fun a => by rw [congrFun (hz t) a]; simp) (V m c main_v1)
theorem iblk5 (t : Fin cfg0.N) : (iblk m c 5 t : Vec Ideal S1x1x4096 .f32) = V m c main_v2 :=
  have hz : ∀ t : Fin cfg0.N, (fun a => win0_5.index t a * main_v2.ty.shape.size a) = fun _ => 0 := by decide +kernel
  Memref.read_access_unit_zero (Elt Ideal) main_v2 (hz t) (fun a => by rw [congrFun (hz t) a]; simp) (V m c main_v2)
theorem iblk6 (t : Fin cfg0.N) : (iblk m c 6 t : Vec Ideal S1x1x4096 .f32) = V m c main_v3 :=
  have hz : ∀ t : Fin cfg0.N, (fun a => win0_6.index t a * main_v3.ty.shape.size a) = fun _ => 0 := by decide +kernel
  Memref.read_access_unit_zero (Elt Ideal) main_v3 (hz t) (fun a => by rw [congrFun (hz t) a]; simp) (V m c main_v3)
theorem iblk7 (t : Fin cfg0.N) : (iblk m c 7 t : Vec Ideal S1x1x4096 .f32) = V m c main_v4 :=
  have hz : ∀ t : Fin cfg0.N, (fun a => win0_7.index t a * main_v4.ty.shape.size a) = fun _ => 0 := by decide +kernel
  Memref.read_access_unit_zero (Elt Ideal) main_v4 (hz t) (fun a => by rw [congrFun (hz t) a]; simp) (V m c main_v4)
theorem iblk8 (t : Fin cfg0.N) : (iblk m c 8 t : Vec Ideal S3x1x1 .i32) = V m c main_v5 :=
  have hz : ∀ t : Fin cfg0.N, (fun a => win0_8.index t a * main_v5.ty.shape.size a) = fun _ => 0 := by decide +kernel
  Memref.read_access_unit_zero (Elt Ideal) main_v5 (hz t) (fun a => by rw [congrFun (hz t) a]; simp) (V m c main_v5)

/-- The one grid point. -/
abbrev t0 : Fin cfg0.N := ⟨0, by decide⟩

/-- A block that starts at zero and has its array's size holds every entry. -/
theorem whole_mem (b : Ref sig .tc) {off : Fin b.ty.shape.rank → ℕ} (h : off = fun _ => 0) (inb : ∀ a, off a + b.ty.shape.size a ≤ b.ty.shape.size a)
    (i : b.ty.shape.Idx) : i ∈ ((View.whole b).slice (Rect.unit off b.ty.shape.size inb)).set := by
  subst h
  rw [View.set_slice_whole, Rect.mem_set_unit]
  exact fun a => ⟨Nat.zero_le _, lt_of_lt_of_eq (i a).isLt (Nat.zero_add _).symm⟩

/-- Each result array ends at the body's result, which its one block covers. -/
theorem arr9 : (dats m 0 c).arrAt 9 cfg0.N = (out0_9 (V m c main_arg0) (V m c main_arg1) (V m c main_v0) (V m c main_arg3) (V m c main_v1) (V m c main_v2) (V m c main_v3) (V m c main_v4) (V m c main_v5) : Vec Ideal S3x512x4096 .f32) := by
  have hz : ∀ t : Fin cfg0.N, (fun a => win0_9.index t a * main_v6_0.ty.shape.size a) = fun _ => 0 := by decide +kernel
  refine (dats m 0 c).arrAt_eq_of_cover 9 _ (fun t _ => ?_) fun i => ⟨t0, flush0_9 t0, ?_⟩
  · show (cfg0.win 9).cut (grid0.coords t) ((dats m 0 c).after 9 t) = _
    rw [after0_9, iblk0, iblk1, iblk2, iblk3, iblk4, iblk5, iblk6, iblk7, iblk8]
    exact (Memref.read_access_unit_zero (Elt Ideal) main_v6_0 (hz t) (fun a => by rw [congrFun (hz t) a]; simp) _).symm
  · exact whole_mem main_v6_0 (hz t0) _ i
theorem arr10 : (dats m 0 c).arrAt 10 cfg0.N = (out0_10 (V m c main_arg0) (V m c main_arg1) (V m c main_v0) (V m c main_arg3) (V m c main_v1) (V m c main_v2) (V m c main_v3) (V m c main_v4) (V m c main_v5) : Vec Ideal S3x1x4096 .f32) := by
  have hz : ∀ t : Fin cfg0.N, (fun a => win0_10.index t a * main_v6_1.ty.shape.size a) = fun _ => 0 := by decide +kernel
  refine (dats m 0 c).arrAt_eq_of_cover 10 _ (fun t _ => ?_) fun i => ⟨t0, flush0_10 t0, ?_⟩
  · show (cfg0.win 10).cut (grid0.coords t) ((dats m 0 c).after 10 t) = _
    rw [after0_10, iblk0, iblk1, iblk2, iblk3, iblk4, iblk5, iblk6, iblk7, iblk8]
    exact (Memref.read_access_unit_zero (Elt Ideal) main_v6_1 (hz t) (fun a => by rw [congrFun (hz t) a]; simp) _).symm
  · exact whole_mem main_v6_1 (hz t0) _ i
theorem arr11 : (dats m 0 c).arrAt 11 cfg0.N = (out0_11 (V m c main_arg0) (V m c main_arg1) (V m c main_v0) (V m c main_arg3) (V m c main_v1) (V m c main_v2) (V m c main_v3) (V m c main_v4) (V m c main_v5) : Vec Ideal S3x1x4096 .i8) := by
  have hz : ∀ t : Fin cfg0.N, (fun a => win0_11.index t a * main_v6_2.ty.shape.size a) = fun _ => 0 := by decide +kernel
  refine (dats m 0 c).arrAt_eq_of_cover 11 _ (fun t _ => ?_) fun i => ⟨t0, flush0_11 t0, ?_⟩
  · show (cfg0.win 11).cut (grid0.coords t) ((dats m 0 c).after 11 t) = _
    rw [after0_11, iblk0, iblk1, iblk2, iblk3, iblk4, iblk5, iblk6, iblk7, iblk8]
    exact (Memref.read_access_unit_zero (Elt Ideal) main_v6_2 (hz t) (fun a => by rw [congrFun (hz t) a]; simp) _).symm
  · exact whole_mem main_v6_2 (hz t0) _ i
theorem arr12 : (dats m 0 c).arrAt 12 cfg0.N = (out0_12 (V m c main_arg0) (V m c main_arg1) (V m c main_v0) (V m c main_arg3) (V m c main_v1) (V m c main_v2) (V m c main_v3) (V m c main_v4) (V m c main_v5) : Vec Ideal S3x1x1 .f32) := by
  have hz : ∀ t : Fin cfg0.N, (fun a => win0_12.index t a * main_v6_3.ty.shape.size a) = fun _ => 0 := by decide +kernel
  refine (dats m 0 c).arrAt_eq_of_cover 12 _ (fun t _ => ?_) fun i => ⟨t0, flush0_12 t0, ?_⟩
  · show (cfg0.win 12).cut (grid0.coords t) ((dats m 0 c).after 12 t) = _
    rw [after0_12, iblk0, iblk1, iblk2, iblk3, iblk4, iblk5, iblk6, iblk7, iblk8]
    exact (Memref.read_access_unit_zero (Elt Ideal) main_v6_3 (hz t) (fun a => by rw [congrFun (hz t) a]; simp) _).symm
  · exact whole_mem main_v6_3 (hz t0) _ i

/-- The sum's rows and the mean over the staged operands are those over the arguments. -/
theorem rows_eq : rowsR (V m c main_arg0) (V m c main_arg1) (V m c main_v0) (V m c main_arg3) (V m c main_v1) (V m c main_v2)
    = rowsA (aX m c) (aH m c) (aHS m c) (aW m c) (aWS m c) (aB m c) := by
  funext b s d
  unfold rowsR rowsA
  rw [V_main_arg0, V_main_arg1, V_main_arg3, V_v0, V_v1, V_v2, scaleCol_apply, lane_apply, lane_apply]
theorem gain_eq : (fun d => (V m c main_v3 : Vec Ideal S1x1x4096 .f32) (ix3 0 0 d)) = fun d => aG m c (ix1 d) :=
  funext fun d => by rw [V_v3, lane_apply]
theorem offset_eq : (fun d => (V m c main_v4 : Vec Ideal S1x1x4096 .f32) (ix3 0 0 d)) = fun d => aBE m c (ix1 d) :=
  funext fun d => by rw [V_v4, lane_apply]
theorem lens_eq (b : Fin 3) : (V m c main_v5 : Vec Ideal S3x1x1 .i32) (ix3 b 0 0) = aL m c (ix1 b) := by rw [V_v5, len_apply]
theorem mean_eq : meanR (V m c main_arg0) (V m c main_arg1) (V m c main_v0) (V m c main_arg3) (V m c main_v1) (V m c main_v2) (V m c main_v3) (V m c main_v4) (V m c main_v5) = resM (aX m c) (aH m c) (aHS m c) (aW m c) (aWS m c) (aB m c) (aG m c) (aBE m c) (aL m c) := by
  funext b d
  unfold meanR resM
  rw [rows_eq, gain_eq, offset_eq, lens_eq]

/-- The four result arrays. -/
theorem out9 : (dats m 0 c).arrAt 9 cfg0.N = (fun i => resZ (aX m c) (aH m c) (aHS m c) (aW m c) (aWS m c) (aB m c) (aG m c) (aBE m c) (aL m c) (i 0) (i 1) (i 2) : Vec Ideal S3x512x4096 .f32) := by
  rw [arr9]; funext i; idx_vars i
  rw [out9_apply, rows_eq, gain_eq, offset_eq, lens_eq, resZ]
theorem out10 : (dats m 0 c).arrAt 10 cfg0.N = (fun i => resM (aX m c) (aH m c) (aHS m c) (aW m c) (aWS m c) (aB m c) (aG m c) (aBE m c) (aL m c) (i 0) (i 2) : Vec Ideal S3x1x4096 .f32) := by
  rw [arr10]; funext i; idx_vars i
  obtain rfl : i1 = 0 := Subsingleton.elim _ _
  rw [out10_apply, mean_eq]
theorem out11 : (dats m 0 c).arrAt 11 cfg0.N = (fun i => resC (aX m c) (aH m c) (aHS m c) (aW m c) (aWS m c) (aB m c) (aG m c) (aBE m c) (aL m c) (i 0) (i 2) : Vec Ideal S3x1x4096 .i8) := by
  rw [arr11]; funext i; idx_vars i
  obtain rfl : i1 = 0 := Subsingleton.elim _ _
  rw [out11_apply, mean_eq]; rfl
theorem out12 : (dats m 0 c).arrAt 12 cfg0.N = (fun i => resS (aX m c) (aH m c) (aHS m c) (aW m c) (aWS m c) (aB m c) (aG m c) (aBE m c) (aL m c) (i 0) : Vec Ideal S3x1x1 .f32) := by
  rw [arr12]; funext i; idx_vars i
  obtain rfl : i1 = 0 := Subsingleton.elim _ _
  obtain rfl : i2 = 0 := Subsingleton.elim _ _
  rw [out12_apply, mean_eq]; rfl

/-- The last lines reshape three of them. -/
theorem tail_v7 (U : Valuation τ sig (Elt Ideal)) : (StableHlo.after hostOps1 U (Proc.devRef .tc main_v7) : Vec Ideal S3x4096 .f32)
    = shapeCast S3x4096 (U (Proc.devRef .tc main_v6_1) : Vec Ideal S3x1x4096 .f32) shapeCasts_S3x1x4096_S3x4096 := by
  after_results; rfl
theorem tail_v8 (U : Valuation τ sig (Elt Ideal)) : (StableHlo.after hostOps1 U (Proc.devRef .tc main_v8) : Vec Ideal S3x4096 .i8)
    = shapeCast S3x4096 (U (Proc.devRef .tc main_v6_2) : Vec Ideal S3x1x4096 .i8) shapeCasts_S3x1x4096_S3x4096 := by
  after_results; rfl
theorem tail_v9 (U : Valuation τ sig (Elt Ideal)) : (StableHlo.after hostOps1 U (Proc.devRef .tc main_v9) : Vec Ideal S3 .f32)
    = shapeCast S3 (U (Proc.devRef .tc main_v6_3) : Vec Ideal S3x1x1 .f32) shapeCasts_S3x1x1_S3 := by
  after_results; rfl

theorem arr_inj : Function.Injective (Pipeline.arrRef (sig := sig) spec0) := by decide

theorem end_v7 : Pipeline.afterTail₀ cfgs (dats m) 0 (V0 m) [hostOps1] c main_v7 = (fun i => resM (aX m c) (aH m c) (aHS m c) (aW m c) (aWS m c) (aB m c) (aG m c) (aBE m c) (aL m c) (i 0) (i 1) : Vec Ideal S3x4096 .f32) := by
  refine (tail_v7 _).trans ((congrArg (fun x => shapeCast S3x4096 x shapeCasts_S3x1x4096_S3x4096)
    ((Pipeline.withArrays_arr spec0 arr_inj c (V0 m c) (fun w => (dats m 0 c).arrAt w cfg0.N) 10).trans (out10 m c))).trans ?_)
  funext i; idx_vars i
  pointwise
theorem end_v8 : Pipeline.afterTail₀ cfgs (dats m) 0 (V0 m) [hostOps1] c main_v8 = (fun i => resC (aX m c) (aH m c) (aHS m c) (aW m c) (aWS m c) (aB m c) (aG m c) (aBE m c) (aL m c) (i 0) (i 1) : Vec Ideal S3x4096 .i8) := by
  refine (tail_v8 _).trans ((congrArg (fun x => shapeCast S3x4096 x shapeCasts_S3x1x4096_S3x4096)
    ((Pipeline.withArrays_arr spec0 arr_inj c (V0 m c) (fun w => (dats m 0 c).arrAt w cfg0.N) 11).trans (out11 m c))).trans ?_)
  funext i; idx_vars i
  pointwise
theorem end_v9 : Pipeline.afterTail₀ cfgs (dats m) 0 (V0 m) [hostOps1] c main_v9 = (fun i => resS (aX m c) (aH m c) (aHS m c) (aW m c) (aWS m c) (aB m c) (aG m c) (aBE m c) (aL m c) (i 0) : Vec Ideal S3 .f32) := by
  refine (tail_v9 _).trans ((congrArg (fun x => shapeCast S3 x shapeCasts_S3x1x1_S3)
    ((Pipeline.withArrays_arr spec0 arr_inj c (V0 m c) (fun w => (dats m 0 c).arrAt w cfg0.N) 12).trans (out12 m c))).trans ?_)
  funext i; idx_vars i
  pointwise

theorem rest_v7 : main_v7 ∈ Pipeline.restRefs sig spec0 := Pipeline.mem_restRefs_of main_v7 (by decide) (by decide)
theorem rest_v8 : main_v8 ∈ Pipeline.restRefs sig spec0 := Pipeline.mem_restRefs_of main_v8 (by decide) (by decide)
theorem rest_v9 : main_v9 ∈ Pipeline.restRefs sig spec0 := Pipeline.mem_restRefs_of main_v9 (by decide) (by decide)

/-- The run's four results. -/
theorem results : θ_run defs (onTc (τ := τ) (main (F := Ideal))) ⟨m, fun _ => 0, ρ⟩ (fun r => ∀ c : Dev nD,
      r.2.mem ((c.tc : Thread nD τ).loc main_v6_0) = (fun i => resZ (aX m c) (aH m c) (aHS m c) (aW m c) (aWS m c) (aB m c) (aG m c) (aBE m c) (aL m c) (i 0) (i 1) (i 2) : Vec Ideal S3x512x4096 .f32)
      ∧ r.2.mem ((c.tc : Thread nD τ).loc main_v7) = (fun i => resM (aX m c) (aH m c) (aHS m c) (aW m c) (aWS m c) (aB m c) (aG m c) (aBE m c) (aL m c) (i 0) (i 1) : Vec Ideal S3x4096 .f32)
      ∧ r.2.mem ((c.tc : Thread nD τ).loc main_v8) = (fun i => resC (aX m c) (aH m c) (aHS m c) (aW m c) (aWS m c) (aB m c) (aG m c) (aBE m c) (aL m c) (i 0) (i 1) : Vec Ideal S3x4096 .i8)
      ∧ r.2.mem ((c.tc : Thread nD τ).loc main_v9) = (fun i => resS (aX m c) (aH m c) (aHS m c) (aW m c) (aWS m c) (aB m c) (aG m c) (aBE m c) (aL m c) (i 0) : Vec Ideal S3 .f32)) :=
  (θ_run defs _ _).mono (fun _ h c => ⟨((h c).1 9).trans (out9 m c), ((h c).2 main_v7 rest_v7).trans (end_v7 m c),
    ((h c).2 main_v8 rest_v8).trans (end_v8 m c), ((h c).2 main_v9 rest_v9).trans (end_v9 m c)⟩) (run_main m ρ)

end Cert.ReferenceProof
-- ==== Proof.lean ====
module

public import proofs.«01_k».proof.Defs
public import proofs.«01_k».proof.Proof.Frame
public import proofs.«01_k».proof.Proof.Transport
public import proofs.«01_k».proof.Proof.Decode
public import proofs.«01_k».proof.Proof.Gen.ReferenceIdeal.Frame
public import proofs.«01_k».proof.Proof.KernelResult
public import proofs.«01_k».proof.Proof.RefResult

@[expose] public section

noncomputable section

namespace Cert.Proof

open Idealize.ShloMosaic Idealize.ShloMosaic.TcCoe Idealize.SL.Sem Cert.KernelProof

/-- The precondition gives the run its bound on the lengths. -/
theorem lens_le {F : FTy → Type} [FloatOps F] [Cert.Pre_lengths_fit.Facts]
    (m : (ℓ : Loc Cert.KernelIdeal.nD Cert.KernelIdeal.τ Cert.KernelIdeal.sig) → Buf (Elt F) ℓ)
    (h : ∀ c : Dev Cert.KernelIdeal.nD, (Cert.Pre_lengths_fit.fn (F := F) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1))
    (c : Dev Cert.KernelIdeal.nD) (b : ℕ) (hb : b < 3) : (lenw m c b hb).toNat ≤ 512 := by
  unfold lenw
  rw [V_keep m c Cert.KernelIdeal.main_arg8 (by decide) (by decide) (by decide) (by decide) (by decide)]
  exact len_le (h c) _

/-- From memories with the same arguments, both runs end with the same four results, and with their arguments unchanged. -/
theorem values [Cert.Pre_lengths_fit.Facts] : Cert.algebraic_KernelIdeal_ReferenceIdeal := by
  intro m g m' g' hpre hagree
  have hL := lens_le m hpre
  refine ⟨fun c => (fun i => resZ (kX m c) (kH m c) (kHS m c) (kW m c) (kWS m c) (kB m c) (kG m c) (kBE m c) (kL m c) (i 0) (i 1) (i 2) : Vec Ideal Cert.KernelIdeal.S3x512x4096 .f32),
    fun c => (fun i => resM (kX m c) (kH m c) (kHS m c) (kW m c) (kWS m c) (kB m c) (kG m c) (kBE m c) (kL m c) (i 0) (i 1) : Vec Ideal Cert.KernelIdeal.S3x4096 .f32),
    fun c => (fun i => resC (kX m c) (kH m c) (kHS m c) (kW m c) (kWS m c) (kB m c) (kG m c) (kBE m c) (kL m c) (i 0) (i 1) : Vec Ideal Cert.KernelIdeal.S3x4096 .i8),
    fun c => (fun i => resS (kX m c) (kH m c) (kHS m c) (kW m c) (kWS m c) (kB m c) (kG m c) (kBE m c) (kL m c) (i 0) : Vec Ideal Cert.KernelIdeal.S3 .f32), ?_, ?_⟩
  · refine (θ_run _ _ _).mono (fun r h c => ?_) (θ_run_and (results m g hL) (frame m g hL))
    exact ⟨(h.1 c).1, (h.1 c).2.1, (h.1 c).2.2.1, (h.1 c).2.2.2, h.2.1 c⟩
  · refine (θ_run _ _ _).mono (fun r h c => ?_) (θ_run_and (Cert.ReferenceProof.results m' g') (Cert.ReferenceIdeal.Gen.unchanged m' g'))
    have e0 : Cert.ReferenceProof.aX m' c = kX m c := (hagree c).1
    have e1 : Cert.ReferenceProof.aH m' c = kH m c := (hagree c).2.1
    have e2 : Cert.ReferenceProof.aHS m' c = kHS m c := (hagree c).2.2.1
    have e3 : Cert.ReferenceProof.aW m' c = kW m c := (hagree c).2.2.2.1
    have e4 : Cert.ReferenceProof.aWS m' c = kWS m c := (hagree c).2.2.2.2.1
    have e5 : Cert.ReferenceProof.aB m' c = kB m c := (hagree c).2.2.2.2.2.1
    have e6 : Cert.ReferenceProof.aG m' c = kG m c := (hagree c).2.2.2.2.2.2.1
    have e7 : Cert.ReferenceProof.aBE m' c = kBE m c := (hagree c).2.2.2.2.2.2.2.1
    have e8 : Cert.ReferenceProof.aL m' c = kL m c := (hagree c).2.2.2.2.2.2.2.2
    have h1 := h.1 c
    rw [e0, e1, e2, e3, e4, e5, e6, e7, e8] at h1
    exact ⟨h1.1, h1.2.1, h1.2.2.1, h1.2.2.2, h.2 c⟩

theorem claim : Cert.Claim :=
  ⟨Cert.Kernel.Gen.facts, Cert.KernelIdeal.Gen.facts, Cert.ReferenceIdeal.Gen.facts, pre_facts,
    fun m g h => run_of _ _ (frame m g (letI := pre_facts; lens_le m h)),
    fun m g h => frame m g (letI := pre_facts; lens_le m h),
    fun m g _ => Cert.ReferenceIdeal.Gen.frame m g,
    trivial, letI := pre_facts; values⟩

end Cert.Proof

end
